-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_are_probabilities [hPre_targets_are_probabilities : Cert.Pre_targets_are_probabilities.Facts] (m : (ℓ : Loc Cert.KernelIdeal.nD Cert.KernelIdeal.τ Cert.KernelIdeal.sig) → Buf (Elt Ideal) ℓ) : Prop :=
  ∀ c : Dev Cert.KernelIdeal.nD,
    (Cert.Pre_targets_are_probabilities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_are_probabilities [hPre_targets_are_probabilities : Cert.Pre_targets_are_probabilities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_are_probabilities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_are_probabilities [hKernelIdeal : Cert.KernelIdeal.Facts] [hPre_targets_are_probabilities : Cert.Pre_targets_are_probabilities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_are_probabilities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_are_probabilities [hReferenceIdeal : Cert.ReferenceIdeal.Facts] [hPre_targets_are_probabilities : Cert.Pre_targets_are_probabilities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_are_probabilities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_targets_are_probabilities [hKernelIdeal : Cert.KernelIdeal.Facts] [hReferenceIdeal : Cert.ReferenceIdeal.Facts] [hPre_targets_are_probabilities : Cert.Pre_targets_are_probabilities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_are_probabilities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_are_probabilities : Cert.Pre_targets_are_probabilities.Facts),
    quiescent_Kernel (hKernel := hKernel)
    ∧ quiescent_KernelIdeal (hKernelIdeal := hKernelIdeal)
    ∧ quiescent_KernelIdeal_pre_targets_are_probabilities (hKernelIdeal := hKernelIdeal) (hPre_targets_are_probabilities := hPre_targets_are_probabilities)
    ∧ quiescent_ReferenceIdeal (hReferenceIdeal := hReferenceIdeal)
    ∧ quiescent_ReferenceIdeal_pre_targets_are_probabilities (hReferenceIdeal := hReferenceIdeal) (hPre_targets_are_probabilities := hPre_targets_are_probabilities)
    ∧ preserves_Kernel_KernelIdeal
    ∧ algebraic_KernelIdeal_ReferenceIdeal_pre_targets_are_probabilities (hKernelIdeal := hKernelIdeal) (hReferenceIdeal := hReferenceIdeal) (hPre_targets_are_probabilities := hPre_targets_are_probabilities)
-- ==== Pre_targets_are_probabilities.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_cst : FVec F S_ .f32 := constant S_ .f32 0x00000000#32
  let main_v0 : FVec F S16384x1024 .f32 := broadcastInDim S16384x1024 ![] bcast_S_S16384x1024 main_cst
  let main_v1 : IVec S16384x1024 1 := cmpf .oge main_arg1 main_v0
  let main_cst_0 : FVec F S_ .f32 := constant S_ .f32 0x3F800000#32
  let main_v2 : FVec F S16384x1024 .f32 := broadcastInDim S16384x1024 ![] bcast_S_S16384x1024 main_cst_0
  let main_v3 : IVec S16384x1024 1 := cmpf .ole main_arg1 main_v2
  let main_v4 : IVec S16384x1024 1 := andi main_v1 main_v3
  let main_c : IVec S_ 1 := constantI S_ 1 1#1
  let main_v5 : IVec S_ 1 := (fun x v => Host.reduce IntOp.andi x v reducesTo_S16384x1024_S_d0_1 h_S_) main_v4 main_c
  main_v5
-- ==== Kernel.lean ====
abbrev S16384x1024 : Shape := ⟨2, ![16384, 1024]⟩
abbrev S8x128 : Shape := ⟨2, ![8, 128]⟩
abbrev S256x1024 : Shape := ⟨2, ![256, 1024]⟩
abbrev S160x128 : Shape := ⟨2, ![160, 128]⟩
abbrev S16x128 : Shape := ⟨2, ![16, 128]⟩
abbrev S1x16x128 : Shape := ⟨3, ![1, 16, 128]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x128, .f32⟩
  | .hbm, ⟨3, _⟩ => ⟨S1x1, .f32⟩
  | .hbm, ⟨4, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128, .f32⟩
  | .local _ .vmem, ⟨5, _⟩ => ⟨S160x128, .f32⟩
  | .local _ .vmem, ⟨6, _⟩ => ⟨S160x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v13180 : BitVec 1 := Scalar.cmpi .eq arg0 c63_i32
  let v13181 : BitVec 32 := Scalar.extui v13180
  let c0_i32_4283 : BitVec 32 := 0#32
  let v13182 : BitVec 1 := Scalar.cmpi .ne v13181 c0_i32_4283
  v13182

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S16384x1024 : Shape := ⟨2, ![16384, 1024]⟩
abbrev S_ : Shape := ⟨0, ![]⟩
abbrev S16777216 : Shape := ⟨1, ![16777216]⟩
abbrev S10 : Shape := ⟨1, ![10]⟩
abbrev S16777216x1 : Shape := ⟨2, ![16777216, 1]⟩
abbrev S16384x1024x1 : Shape := ⟨3, ![16384, 1024, 1]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .i32⟩
  | .hbm, ⟨17, _⟩ => ⟨S16777216, .i32⟩
  | .hbm, ⟨18, _⟩ => ⟨S_, .i32⟩
  | .hbm, ⟨19, _⟩ => ⟨S10, .i32⟩
  | .hbm, ⟨20, _⟩ => ⟨S_, .i32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S_, .i32⟩
  | .hbm, ⟨33, _⟩ => ⟨S16777216, .i32⟩
  | .hbm, ⟨34, _⟩ => ⟨S10, .i32⟩
  | .hbm, ⟨35, _⟩ => ⟨S10, .f32⟩
  | .hbm, ⟨36, _⟩ => ⟨S_, .f32⟩
  | .hbm, ⟨37, _⟩ => ⟨S10, .f32⟩
  | .hbm, ⟨38, _⟩ => ⟨S10, .i1⟩
  | .hbm, ⟨39, _⟩ => ⟨S10, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S_, .f32⟩
  | .hbm, ⟨46, _⟩ => ⟨S_, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .i32⟩
  | .hbm, ⟨53, _⟩ => ⟨S16384x1024, .i32⟩
  | .hbm, ⟨54, _⟩ => ⟨S16384x1024, .i1⟩
  | .hbm, ⟨55, _⟩ => ⟨S_, .i32⟩
  | .hbm, ⟨56, _⟩ => ⟨S16384x1024, .i32⟩
  | .hbm, ⟨57, _⟩ => ⟨S16384x1024, .i32⟩
  | .hbm, ⟨58, _⟩ => ⟨S16384x1024, .i32⟩
  | .hbm, ⟨59, _⟩ => ⟨S16384x1024x1, .i32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_c_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_13 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Proof.Scalar.lean ====
/- The loss, one element at a time, over the extended reals: what a prediction `x` and a target `t` contribute, and the
   identities between the spelling through `tanh` and the spelling through `exp`. -/
module

public import Idealize.ShloMosaic.PureOps.Ideal
public import Idealize.ShloMosaic.PureOps.Ideal.Laws
public import Mathlib.Analysis.SpecialFunctions.Log.Basic
public import Mathlib.Tactic.FieldSimp
public import Mathlib.Tactic.Linarith
public import Mathlib.Tactic.Positivity
public import Mathlib.Tactic.NormNum
public import Mathlib.Tactic.Ring

@[expose] public section

noncomputable section

namespace Cert.Ghm

open Idealize.ShloMosaic

/-! ## The constants -/

/-- The single-precision pattern of `1/2`. -/
theorem half_eq : Ideal.ofBits .f32 0x3F000000#32 = ((1 / 2 : ℝ) : EReal) := by
  simp [Ideal.ofBits, Ideal.ieee]; norm_num [← EReal.coe_one, ← EReal.coe_mul]

/-- The single-precision pattern of `1`. -/
theorem one_eq : Ideal.ofBits .f32 0x3F800000#32 = 1 := by
  simp [Ideal.ofBits, Ideal.ieee]; norm_num [← EReal.coe_one, ← EReal.coe_mul]

/-- The scale of the gradient norm into bins: the single-precision number nearest `10 - 0.0001`. -/
def scale : ℝ := 10485655 / 1048576

theorem scale_eq : Ideal.ofBits .f32 0x411FFF97#32 = (scale : EReal) := by
  unfold scale
  simp [Ideal.ofBits, Ideal.ieee]; norm_num [← EReal.coe_one, ← EReal.coe_mul]

/-- The number of elements, `16384 * 1024`. -/
theorem total_eq : Ideal.ofBits .f32 0x4B800000#32 = ((16777216 : ℝ) : EReal) := by
  simp [Ideal.ofBits, Ideal.ieee]; norm_num [← EReal.coe_one, ← EReal.coe_mul]

/-- The floor under the gradient density: a positive real. -/
def eps : ℝ := 13743895 / 2 ^ 37

theorem eps_eq : Ideal.ofBits .f32 0x38D1B717#32 = (eps : EReal) := by
  unfold eps
  simp [Ideal.ofBits, Ideal.ieee]; norm_num [← EReal.coe_one, ← EReal.coe_mul]

theorem eps_pos : 0 < eps := by unfold eps; norm_num

/-! ## The logistic function through `tanh` -/

/-- `tanh (a/2) / 2 + 1/2` of the magnitude `a` of `x`. -/
def halfTanh (x : EReal) : EReal := ((1 / 2 : ℝ) : EReal) * Ideal.tanh (max x (-x) * ((1 / 2 : ℝ) : EReal)) + ((1 / 2 : ℝ) : EReal)

theorem real_halfTanh (a : ℝ) : 1 / 2 * Real.tanh (a * (1 / 2)) + 1 / 2 = (1 + Real.exp (-a))⁻¹ := by
  have e : Real.exp (-a) = Real.exp (-(a / 2)) * Real.exp (-(a / 2)) := by rw [← Real.exp_add]; ring_nf
  have h1 := Real.exp_pos (a / 2)
  have h2 := Real.exp_pos (-(a / 2))
  have h3 : Real.exp (a / 2) * Real.exp (-(a / 2)) = 1 := by rw [← Real.exp_add]; simp
  rw [Real.tanh_eq_sinh_div_cosh, Real.sinh_eq, Real.cosh_eq, e, show a * (1 / 2) = a / 2 by ring]
  generalize Real.exp (a / 2) = p at *
  generalize Real.exp (-(a / 2)) = q at *
  have hp : p + q ≠ 0 := by positivity
  have hq : 1 + q * q ≠ 0 := by positivity
  field_simp
  have : p * q * q = q := by rw [h3, one_mul]
  nlinarith [this]

theorem halfTanh_coe (r : ℝ) : halfTanh r = (((1 + Real.exp (-|r|))⁻¹ : ℝ) : EReal) := by
  have hm : max (r : EReal) (-(r : EReal)) = ((|r| : ℝ) : EReal) := by
    rw [← EReal.coe_neg, abs]; exact (EReal.coe_strictMono.monotone.map_max).symm
  unfold halfTanh
  rw [hm, ← EReal.coe_mul, Ideal.tanh_coe, ← EReal.coe_mul, ← EReal.coe_add, real_halfTanh]

theorem halfTanh_top : halfTanh ⊤ = 1 := by
  unfold halfTanh
  rw [max_eq_left (by simp), EReal.top_mul_coe_of_pos (by norm_num), Ideal.tanh_top, mul_one, ← EReal.coe_add]
  norm_num

theorem halfTanh_bot : halfTanh ⊥ = 1 := by
  unfold halfTanh
  rw [EReal.neg_bot, max_eq_right (by simp), EReal.top_mul_coe_of_pos (by norm_num), Ideal.tanh_top, mul_one, ← EReal.coe_add]
  norm_num

/-- The magnitude's logistic value, reflected for a negative argument, is the logistic function: at the infinities too. -/
theorem halfTanh_logistic (x : EReal) : (if 0 ≤ x then halfTanh x else 1 - halfTanh x) = Ideal.logistic x := by
  induction x using EReal.rec with
  | bot => rw [if_neg (by simp), halfTanh_bot, Ideal.logistic_bot, ← EReal.coe_one, ← EReal.coe_sub]; simp
  | top => rw [if_pos (by simp), halfTanh_top, Ideal.logistic_top]
  | coe r =>
    rw [halfTanh_coe, Ideal.logistic_coe]
    by_cases h : 0 ≤ r
    · rw [if_pos (by exact_mod_cast h), abs_of_nonneg h]
    · rw [if_neg (by exact_mod_cast h), abs_of_neg (not_le.1 h), neg_neg, ← EReal.coe_one, ← EReal.coe_sub]
      congr 1
      have h1 := Real.exp_pos r
      have h3 : Real.exp r * Real.exp (-r) = 1 := by rw [← Real.exp_add]; simp
      have h2 := Real.exp_pos (-r)
      generalize Real.exp r = p at *
      generalize Real.exp (-r) = q at *
      field_simp
      nlinarith [h3]

/-- The logistic function's values are reals between 0 and 1. -/
theorem logistic_unit (x : EReal) : ∃ s : ℝ, Ideal.logistic x = (s : EReal) ∧ 0 ≤ s ∧ s ≤ 1 := by
  induction x using EReal.rec with
  | bot => exact ⟨0, by simp, le_refl _, zero_le_one⟩
  | top => exact ⟨1, by simp, zero_le_one, le_refl _⟩
  | coe r =>
    refine ⟨_, Ideal.logistic_coe r, by positivity, inv_le_one_of_one_le₀ ?_⟩
    have := Real.exp_pos (-r); linarith

/-! ## The softplus term through `log` -/

/-- `log (1 + e^(-|x|))`. -/
def softplus (x : EReal) : EReal := Ideal.log1p (Ideal.exp (-(max x (-x))))

/-- The logarithm of the magnitude's logistic value is a real, and minus the softplus term. -/
theorem log_halfTanh (x : EReal) : ∃ l : ℝ, Ideal.log (halfTanh x) = (l : EReal) ∧ softplus x = ((-l : ℝ) : EReal) := by
  induction x using EReal.rec with
  | bot =>
    refine ⟨0, ?_, ?_⟩
    · rw [halfTanh_bot, ← EReal.coe_one, Ideal.log_coe]; simp
    · unfold softplus Ideal.log1p
      rw [EReal.neg_bot, max_eq_right (by simp), EReal.neg_top, Ideal.exp_bot, add_zero, ← EReal.coe_one, Ideal.log_coe]; simp
  | top =>
    refine ⟨0, ?_, ?_⟩
    · rw [halfTanh_top, ← EReal.coe_one, Ideal.log_coe]; simp
    · unfold softplus Ideal.log1p
      rw [max_eq_left (by simp), EReal.neg_top, Ideal.exp_bot, add_zero, ← EReal.coe_one, Ideal.log_coe]; simp
  | coe r =>
    have hp : (0 : ℝ) < 1 + Real.exp (-|r|) := by positivity
    have hm : max (r : EReal) (-(r : EReal)) = ((|r| : ℝ) : EReal) := by
      rw [← EReal.coe_neg, abs]; exact (EReal.coe_strictMono.monotone.map_max).symm
    refine ⟨-Real.log (1 + Real.exp (-|r|)), ?_, ?_⟩
    · rw [halfTanh_coe, Ideal.log_coe, if_neg (not_le.2 (inv_pos.2 hp)), Real.log_inv]
    · unfold softplus Ideal.log1p
      rw [hm, ← EReal.coe_neg, Ideal.exp_coe, ← EReal.coe_one, ← EReal.coe_add, Ideal.log_coe, if_neg (not_le.2 hp), neg_neg]

/-- The cross entropy of one element, before its weight. -/
def bce (x t : EReal) : EReal := max x 0 - x * t + softplus x

/-- The cross entropy with the softplus term as a logarithm, passed through base two and back. -/
theorem bce_eq_log (x t : EReal) :
    max x 0 - x * t - Ideal.log (halfTanh x) * (((Real.log 2)⁻¹ : ℝ) : EReal) * ((Real.log 2 : ℝ) : EReal) = bce x t := by
  obtain ⟨l, hl, hs⟩ := log_halfTanh x
  have h2 : Real.log 2 ≠ 0 := (Real.log_pos one_lt_two).ne'
  unfold bce
  rw [hl, hs, ← EReal.coe_mul, ← EReal.coe_mul, mul_assoc, inv_mul_cancel₀ h2, mul_one, sub_eq_add_neg (max x 0 - x * t), EReal.coe_neg]

/-! ## The bin -/

/-- The bin of one element, as the extended real both programs compute: `⌊|σ(x) - t| · scale⌋`. -/
def binE (x t : EReal) : EReal :=
  Ideal.liftRound Int.floor (max (Ideal.logistic x - t) (-(Ideal.logistic x - t)) * (scale : EReal))

/-- The bin of one element as a natural number. -/
def bin (x t : EReal) : ℕ := ⌊(binE x t).toReal⌋₊

/-- With the target a probability the bin is one of the ten. -/
theorem bin_spec (x t : EReal) (h0 : 0 ≤ t) (h1 : t ≤ 1) : binE x t = ((bin x t : ℝ) : EReal) ∧ bin x t < 10 := by
  obtain ⟨s, hs, s0, s1⟩ := logistic_unit x
  lift t to ℝ using ⟨fun h => by rw [h] at h1; exact absurd (top_le_iff.1 h1) (EReal.coe_ne_top 1), fun h => by rw [h] at h0; exact absurd h0 (by simp)⟩
  have t0 : 0 ≤ t := by exact_mod_cast h0
  have t1 : t ≤ 1 := by exact_mod_cast h1
  have hm : max ((s : EReal) - (t : EReal)) (-((s : EReal) - (t : EReal))) = ((|s - t| : ℝ) : EReal) := by
    rw [← EReal.coe_sub, ← EReal.coe_neg, abs]; exact (EReal.coe_strictMono.monotone.map_max).symm
  have hE : binE x t = ((⌊|s - t| * scale⌋ : ℝ) : EReal) := by
    unfold binE; rw [hs, hm, ← EReal.coe_mul, Ideal.liftRound_coe]
  have ha : |s - t| ≤ 1 := abs_le.2 ⟨by linarith, by linarith⟩
  have hsc : (0 : ℝ) ≤ scale ∧ scale < 10 := by unfold scale; norm_num
  have hp : 0 ≤ |s - t| * scale := mul_nonneg (abs_nonneg _) hsc.1
  have hlt : |s - t| * scale < 10 := lt_of_le_of_lt (mul_le_of_le_one_left hsc.1 ha) hsc.2
  have hf0 : 0 ≤ ⌊|s - t| * scale⌋ := Int.floor_nonneg.2 hp
  have hf1 : ⌊|s - t| * scale⌋ < 10 := Int.floor_lt.2 (by exact_mod_cast hlt)
  generalize ⌊|s - t| * scale⌋ = z at *
  lift z to ℕ using hf0
  have hbn : bin x t = z := by unfold bin; rw [hE, EReal.toReal_coe]; simp
  exact ⟨by rw [hbn, hE]; norm_cast, by rw [hbn]; exact_mod_cast hf1⟩

end Cert.Ghm

end
-- ==== Proof.Bounds.lean ====
/- The precondition read: every target is a probability. -/
module

public import proofs.«01_k».proof.Pre_targets_are_probabilities
public import proofs.«01_k».proof.Proof.Scalar
public import Idealize.ShloMosaic.Lib.ReduceAll

@[expose] public section

namespace Cert.Pre_targets_are_probabilities

open Idealize.ShloMosaic Cert.Ghm

/-- The shape facts the precondition's operations take. -/
theorem facts : Facts where
  bcast_S_S16384x1024 := by decide
  reducesTo_S16384x1024_S_d0_1 := by decide
  h_S_ := by decide

variable [Facts]

/-- Where the precondition holds, every target lies between zero and one. -/
theorem bounds (X T : FVec Ideal S16384x1024 .f32) (h : fn X T = fun _ => 1#1) (i : S16384x1024.Idx) : 0 ≤ T i ∧ T i ≤ 1 := by
  have : Subsingleton S_.Idx := ⟨fun a b => funext fun k => k.elim0⟩
  have hj := congrFun h (fun k => k.elim0)
  unfold fn at hj
  dsimp only at hj
  have e := Host.reduce_andi_all _ _ _ _ _ hj i
  have e' : BitVec.ofBool (decide (Ideal.ofBits .f32 0x00000000#32 ≤ T i)) &&& BitVec.ofBool (decide (T i ≤ Ideal.ofBits .f32 0x3F800000#32)) = 1#1 := e
  rw [Ideal.ofBits_zero_f32, one_eq] at e'
  by_cases h0 : 0 ≤ T i
  · by_cases h1 : T i ≤ 1
    · exact ⟨h0, h1⟩
    · rw [decide_eq_false h1] at e'
      exact absurd e' (by cases decide (0 ≤ T i) <;> decide)
  · rw [decide_eq_false h0] at e'
    exact absurd e' (by cases decide (T i ≤ 1) <;> decide)

end Cert.Pre_targets_are_probabilities
-- ==== Proof.Totals.lean ====
/- The loss from its ten bins: summing each bin's cross entropies and weighting the ten sums gives what weighting every
   element and summing gives. -/
module

public import proofs.«01_k».proof.Proof.Scalar
public import Mathlib.Algebra.BigOperators.Fin

@[expose] public section

noncomputable section

namespace Cert.Ghm

open Idealize.ShloMosaic
open scoped BigOperators

variable {ι : Type} [Fintype ι]

/-- How many elements fall in bin `b`. -/
def count (k : ι → ℕ) (b : ℕ) : ℕ := (Finset.univ.filter fun i => k i = b).card

/-- How many of the ten bins hold an element. -/
def filled (k : ι → ℕ) : ℕ := (Finset.univ.filter fun b : Fin 10 => 0 < count k b.val).card

/-- The gradient density of bin `b`: its count times the number of filled bins, kept from zero. -/
def density (k : ι → ℕ) (b : ℕ) : ℝ := max ((count k b : ℝ) * (filled k : ℝ)) eps

theorem density_pos (k : ι → ℕ) (b : ℕ) : 0 < density k b := lt_of_lt_of_le eps_pos (le_max_right _ _)

/-- The loss: the ten bins' sums, each over its density. -/
def loss (k : ι → ℕ) (c : ι → EReal) : EReal :=
  ∑ b : Fin 10, Ideal.div (∑ i, if k i = b.val then c i else 0) ((density k b.val : ℝ) : EReal)

/-- The indicators of a bin add up to its count. -/
theorem sum_indicator (k : ι → ℕ) (b : ℕ) : (∑ i, if k i = b then (1 : EReal) else 0) = ((count k b : ℝ) : EReal) := by
  classical
  have h : ∀ s : Finset ι, (∑ i ∈ s, if k i = b then (1 : EReal) else 0) = (((s.filter fun i => k i = b).card : ℝ) : EReal) := by
    intro s
    induction s using Finset.induction_on with
    | empty => simp
    | insert a s ha ih =>
      rw [Finset.sum_insert ha, ih, Finset.filter_insert]
      by_cases e : k a = b
      · rw [if_pos e, if_pos e, Finset.card_insert_of_notMem (by simp [ha]), add_comm, ← EReal.coe_one, ← EReal.coe_add]
        push_cast; rfl
      · rw [if_neg e, if_neg e, zero_add]
  exact h _

/-- The positive bins' indicators add up to their number. -/
theorem sum_filled (k : ι → ℕ) : (∑ b : Fin 10, if 0 < ((count k b.val : ℝ) : EReal) then (1 : EReal) else 0) = ((filled k : ℝ) : EReal) := by
  have h := sum_indicator (ι := Fin 10) (fun b => if 0 < count k b.val then 1 else 0) 1
  have e : count (ι := Fin 10) (fun b => if 0 < count k b.val then 1 else 0) 1 = filled k := by
    show (Finset.univ.filter fun b : Fin 10 => (if 0 < count k b.val then 1 else 0) = 1).card = (Finset.univ.filter fun b : Fin 10 => 0 < count k b.val).card
    congr 1; ext b
    rw [Finset.mem_filter, Finset.mem_filter]
    by_cases e : 0 < count k b.val <;> simp only [e, if_true, if_false] <;> simp
  rw [e] at h
  rw [← h]
  refine Finset.sum_congr rfl fun b _ => ?_
  have : (0 < ((count k b.val : ℝ) : EReal)) ↔ 0 < count k b.val := by
    rw [← EReal.coe_zero, EReal.coe_lt_coe_iff]; exact Nat.cast_pos
  by_cases e : 0 < count k b.val <;> simp [this, e]

/-- A nonnegative real factor distributes over a sum of extended reals, infinities of both signs included. -/
theorem sum_mul_real (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- Weighting each element by the total over its bin's density, and taking the mean, is the ten-bin loss. -/
theorem loss_eq_mean (k : ι → ℕ) (hk : ∀ i, k i < 10) (c : ι → EReal) (N : ℝ) (hN : 0 < N) :
    Ideal.div (∑ i, Ideal.div (N : EReal) ((density k (k i) : ℝ) : EReal) * c i) (N : EReal) = loss k c := by
  classical
  unfold loss
  rw [Ideal.div_coe hN.ne', sum_mul_real _ _ _ (by positivity)]
  have hb : ∀ b : Fin 10, Ideal.div (∑ i, if k i = b.val then c i else 0) ((density k b.val : ℝ) : EReal)
      = ∑ i, if k i = b.val then c i * ((1 / density k b.val : ℝ) : EReal) else 0 := by
    intro b
    have hd := density_pos k b.val
    rw [Ideal.div_coe hd.ne', sum_mul_real _ _ _ (by positivity)]
    refine Finset.sum_congr rfl fun i _ => ?_
    split <;> simp
  rw [Finset.sum_congr rfl fun b _ => hb b, Finset.sum_comm]
  refine Finset.sum_congr rfl fun i _ => ?_
  have hd := density_pos k (k i)
  rw [Finset.sum_eq_single (⟨k i, hk i⟩ : Fin 10)]
  · rw [if_pos rfl, Ideal.div_coe hd.ne', mul_comm _ (c i), mul_assoc, ← EReal.coe_mul, ← EReal.coe_mul]
    congr 2
    field_simp
  · intro b _ hne
    rw [if_neg fun h => hne (Fin.ext h.symm)]
  · intro h; exact absurd (Finset.mem_univ _) h

end Cert.Ghm

end
-- ==== Proof.Hist.lean ====
/- A histogram built by scattering ones: each entry ends at the number of indices that name it. -/
module

public import proofs.«01_k».proof.Proof.Totals
public import Idealize.ShloMosaic.PureOps
public import Idealize.ShloMosaic.Lib.ValueIdxCore
public import Idealize.ShloMosaic.Lib.ValueIdxRank1
public import Idealize.ShloMosaic.Lib.Routing.OpsPair
public import Idealize.ShloMosaic.Lib.StableHlo.Predicate

@[expose] public section

noncomputable section

namespace Cert.Ghm

open Idealize.ShloMosaic Idealize.ShloMosaic.ValueIdx

/-- A left fold that adds one at the members satisfying `p` adds their number, as a 32-bit word. -/
theorem foldl_ones {α : Type} (p : α → Prop) [DecidablePred p] (l : List α) (w : BitVec 32) :
    l.foldl (fun a n => if p n then IntOp.addi a 1#32 else a) w = w + BitVec.ofNat 32 (l.countP fun n => decide (p n)) := by
  induction l generalizing w with
  | nil => simp
  | cons n l ih =>
    rw [List.foldl_cons, ih]
    by_cases h : p n
    · rw [if_pos h, List.countP_cons_of_pos (by simpa using h), BitVec.ofNat_add, ← BitVec.add_assoc, BitVec.add_assoc w, BitVec.add_comm (BitVec.ofNat 32 _) (BitVec.ofNat 32 1), ← BitVec.add_assoc]
      rfl
    · rw [if_neg h, List.countP_cons_of_neg (by simpa using h)]

/-- Counting the positions of a finite type along a listing of it is the cardinality of the set. -/
theorem countP_equiv {n : ℕ} {β : Type} [Fintype β] (e : Fin n ≃ β) (p : β → Prop) [DecidablePred p] :
    (List.finRange n).countP (fun i => decide (p (e i))) = (Finset.univ.filter p).card := by
  classical
  rw [List.countP_eq_length_filter, ← List.toFinset_card_of_nodup ((List.nodup_finRange n).filter _)]
  refine Finset.card_bij (fun i _ => e i) (fun i hi => ?_) (fun i _ j _ h => e.injective h) (fun b hb => ⟨e.symm b, ?_, e.apply_symm_apply b⟩)
  · simpa using hi
  · simpa using hb

variable {B N : ℕ}

/-- Where one update of the histogram scatter lands: at entry `x` exactly when its index word, read signed, is `x`. -/
theorem lands (d : ScatterDims ⟨1, ![B]⟩ ⟨2, ![N, 1]⟩ ⟨1, ![N]⟩) (hi : d.insertedWindowDims = [0])
    (hs : d.scatterDimsToOperandDims = [0]) (hv : d.indexVectorDim = 1) (idx : IVec ⟨2, ![N, 1]⟩ 32) (p : Fin N) (x : Fin B) :
    d.resultIdx? (ix1 p) idx = some (ix1 x) ↔ (idx (ix2 p (0 : Fin 1))).toInt = (x.val : ℤ) := by
  have hmem : (0 : Fin 1) ∈ d.scatterDimsToOperandDims := by simp [hs]
  have hnot : (0 : Fin 1) ∉ d.sKept := fun h => by
    have := (List.mem_filter.1 h).2
    rw [hi] at this
    simp at this
  have hw : d.window (ix1 p) 0 = 0 := dif_neg hnot
  have hat : d.siIdx (ix1 p) ⟨d.scatterDimsToOperandDims.idxOf 0, List.idxOf_lt_length_iff.2 hmem⟩ = ix2 p (0 : Fin 1) := by
    funext b
    refine Fin.ext ?_
    match b with
    | ⟨0, _⟩ =>
      have hne : ¬ (0 : ℕ) = d.indexVectorDim := by rw [hv]; exact Nat.zero_ne_one
      have one : ∀ c : Fin 1, (ix1 p c : Fin _).val = p.val := fun c => by rw [Subsingleton.elim c 0]
      refine (congrArg Fin.val (dif_neg hne)).trans ?_
      exact one _
    | ⟨1, _⟩ =>
      refine (congrArg Fin.val (dif_pos (show (1 : ℕ) = d.indexVectorDim from hv.symm))).trans ?_
      show List.idxOf (0 : Fin 1) d.scatterDimsToOperandDims = 0
      rw [hs]; rfl
  have hst : d.start (ix1 p) idx 0 = (idx (ix2 p (0 : Fin 1))).toInt := (dif_pos hmem).trans (by rw [hat])
  rw [Routing.resultIdx?_eq_some]
  constructor
  · intro h
    have := h 0
    rw [hst, hw, Nat.cast_zero, add_zero] at this
    exact this
  · intro h a
    rw [Subsingleton.elim a 0, hst, hw, h, Nat.cast_zero, add_zero]
    rfl

/-- Scattering a one to entry `g p` for each position `p`, into zeros: entry `x` ends at the number of positions with `g p = x`. -/
theorem scatter_ones (d : ScatterDims ⟨1, ![B]⟩ ⟨2, ![N, 1]⟩ ⟨1, ![N]⟩) (hi : d.insertedWindowDims = [0])
    (hs : d.scatterDimsToOperandDims = [0]) (hv : d.indexVectorDim = 1) (x0 : IVec ⟨1, ![B]⟩ 32) (hx0 : ∀ i, x0 i = 0#32)
    (idx : IVec ⟨2, ![N, 1]⟩ 32) (upd : IVec ⟨1, ![N]⟩ 32) (hu : ∀ i, upd i = 1#32) (g : (⟨1, ![N]⟩ : Shape).Idx → ℕ)
    (hg : ∀ p : Fin N, idx (ix2 p (0 : Fin 1)) = BitVec.ofNat 32 (g (ix1 p))) (hb : ∀ p, g p < 2 ^ 31) (x : Fin B) :
    Host.scatter d IntOp.addi x0 idx upd (ix1 x) = BitVec.ofNat 32 (count g x.val) := by
  have hl : ∀ k : (⟨1, ![N]⟩ : Shape).Idx, d.resultIdx? k idx = some (ix1 x) ↔ g k = x.val := fun k => by
    rw [eq_ix1 k]
    show d.resultIdx? (ix1 (k 0)) idx = some (ix1 x) ↔ g (ix1 (k 0)) = x.val
    rw [lands d hi hs hv idx (k 0) x, hg (k 0), StableHlo.Predicate.toInt_ofNat_small _ (hb _)]
    exact Nat.cast_inj
  rw [Routing.scatter_at]
  simp only [hl, hu, hx0]
  rw [foldl_ones, BitVec.zero_add, countP_equiv (Shape.rowMajor ⟨1, ![N]⟩).symm (fun k => g k = x.val)]
  rfl

end Cert.Ghm

end
-- ==== Proof.RefValue.lean ====
/- The reference's result over the extended reals: the ten-bin loss of its two arguments. -/
module

public import proofs.«01_k».proof.Proof.Hist
public import proofs.«01_k».proof.Proof.Gen.ReferenceIdeal.Run
public import Idealize.ShloMosaic.Lib.IdealHost
public import Idealize.ShloMosaic.Lib.IndicatorCount
public import Idealize.ShloMosaic.Lib.Pipeline.Value

@[expose] public section

noncomputable section

namespace Cert.ReferenceIdeal.Loss

open Cert.ReferenceIdeal Cert.ReferenceIdeal.Gen Idealize.ShloMosaic Idealize.ShloMosaic.ValueIdx Cert.Ghm
open scoped BigOperators

/-! ## The reference's stages, named -/

/-- Every element's bin, as a 32-bit word. -/
def binW (X T : FVec Ideal S16384x1024 .f32) : IVec S16384x1024 32 :=
  fptosi 32 (Host.floor (mulf (Host.absf (subf (Host.divf (broadcastInDim S16384x1024 ![] bcast_S_S16384x1024 (constant S_ .f32 0x3F800000#32)) (addf (broadcastInDim S16384x1024 ![] bcast_S_S16384x1024 (constant S_ .f32 0x3F800000#32)) (Host.exp (Host.negf X)))) T)) (broadcastInDim S16384x1024 ![] bcast_S_S16384x1024 (constant S_ .f32 0x411FFF97#32))))

/-- The bins laid out in one row, none below zero. -/
def rowW (w : IVec S16384x1024 32) : IVec S16777216 32 :=
  maxsi (broadcastInDim S16777216 ![] bcast_S_S16777216 (id (constantI S_ 32 0#32))) (shapeCast _ w shapeCasts_S16384x1024_S16777216)

/-- The histogram's indices: the row of bins, a negative one moved up by ten. -/
def indexW (w : IVec S16777216 32) : IVec S16777216x1 32 :=
  broadcastInDim S16777216x1 ![0] bcast_S16777216_S16777216x1_0 (select (cmpi .slt w (broadcastInDim S16777216 ![] bcast_S_S16777216 (constantI S_ 32 0#32))) (addi w (broadcastInDim S16777216 ![] bcast_S_S16777216 (constantI S_ 32 10#32))) w)

/-- The histogram, as 32-bit words. -/
def histW (w : IVec S16384x1024 32) : IVec S10 32 :=
  Host.scatter scatter_S10_S16777216x1_S16777216_n_0_0_1 IntOp.addi (broadcastInDim S10 ![] bcast_S_S10 (constantI S_ 32 0#32)) (indexW (rowW w)) (broadcastInDim S16777216 ![] bcast_S_S16777216 (constantI S_ 32 1#32))

/-- The number of filled bins, as a 32-bit word. -/
def filledW (h : FVec Ideal S10 .f32) : IVec S_ 32 :=
  Host.reduce IntOp.addi (extui 32 (cmpf .ogt h (broadcastInDim S10 ![] bcast_S_S10 (constant S_ .f32 0x00000000#32))) natLt_1_32) (constantI S_ 32 0#32) reducesTo_S10_S_d0 h_S_

/-- Each bin's weight. -/
def weight (h : FVec Ideal S10 .f32) : FVec Ideal S10 .f32 :=
  Host.divf (broadcastInDim S10 ![] bcast_S_S10 (constant S_ .f32 0x4B800000#32)) (maximumf (broadcastInDim S10 ![] bcast_S_S10 (id (constant S_ .f32 0x38D1B717#32))) (mulf h (broadcastInDim S10 ![] bcast_S_S10 (sitofp .f32 (filledW h)))))

/-- The gather's indices: the bins, a negative one moved up by ten. -/
def lookW (w : IVec S16384x1024 32) : IVec S16384x1024x1 32 :=
  broadcastInDim S16384x1024x1 ![0, 1] bcast_S16384x1024_S16384x1024x1_0_1 (select (cmpi .slt w (broadcastInDim S16384x1024 ![] bcast_S_S16384x1024 (constantI S_ 32 0#32))) (addi w (broadcastInDim S16384x1024 ![] bcast_S_S16384x1024 (constantI S_ 32 10#32))) w)

/-- Every element's cross entropy. -/
def bceV (X T : FVec Ideal S16384x1024 .f32) : FVec Ideal S16384x1024 .f32 :=
  addf (subf (maximumf X (broadcastInDim S16384x1024 ![] bcast_S_S16384x1024 (constant S_ .f32 0x00000000#32))) (mulf X T)) (Host.log1p (Host.exp (Host.negf (Host.absf X))))

/-- The whole reference, from its stages. -/
def lossV (X T : FVec Ideal S16384x1024 .f32) : FVec Ideal S_ .f32 :=
  Host.divf (Host.reduceAdd (mulf (Host.gather gather_S10_S16384x1024x1_S16384x1024_n_0_n_n_0_2_1 (weight (sitofp .f32 (histW (binW X T)))) (lookW (binW X T))) (bceV X T)) (constant S_ .f32 0x00000000#32) reducesTo_S16384x1024_S_d0_1 h_S_) (constant S_ .f32 0x4B800000#32)

/-- The reference's result is its stages composed. -/
theorem res_eq (m : (ℓ : Loc nD τ sig) → Buf (Elt Ideal) ℓ) (c : Dev nD) :
    Value.res_main_v52 m c = lossV (m ((c.tc : Thread nD τ).loc main_arg0)) (m ((c.tc : Thread nD τ).loc main_arg1)) := by
  unfold Value.res_main_v52 lossV weight filledW histW lookW bceV indexW rowW binW
  rfl

/-! ## The stages, read -/

variable (X T : FVec Ideal S16384x1024 .f32) (hT : ∀ i, 0 ≤ T i ∧ T i ≤ 1)

/-- The bin of the element at an index. -/
abbrev kOf : S16384x1024.Idx → ℕ := fun i => bin (X i) (T i)

theorem fptosi_nat (n : ℕ) (hn : n < 10) : Ideal.fptosi 32 ((n : ℝ) : EReal) = BitVec.ofNat 32 n := by
  unfold Ideal.fptosi
  rw [Ideal.toIntClamped_coe, if_pos (Nat.cast_nonneg n), Int.floor_natCast]
  interval_cases n <;> rfl

include hT in
theorem binW_apply (i : S16384x1024.Idx) : binW X T i = BitVec.ofNat 32 (kOf X T i) := by
  obtain ⟨e, hlt⟩ := bin_spec (X i) (T i) (hT i).1 (hT i).2
  have h : binW X T i = Ideal.fptosi 32 (Ideal.liftRound Int.floor (max (Ideal.div (Ideal.ofBits .f32 0x3F800000#32) (Ideal.ofBits .f32 0x3F800000#32 + Ideal.exp (-(X i))) - T i) (-(Ideal.div (Ideal.ofBits .f32 0x3F800000#32) (Ideal.ofBits .f32 0x3F800000#32 + Ideal.exp (-(X i))) - T i)) * Ideal.ofBits .f32 0x411FFF97#32)) := rfl
  rw [h, one_eq, scale_eq]
  show Ideal.fptosi 32 (binE (X i) (T i)) = _
  rw [e, fptosi_nat _ hlt]

theorem small_not_neg (n : ℕ) (hn : n < 10) : IntOp.cmpi .slt (BitVec.ofNat 32 n) 0#32 = 0#1 := by
  interval_cases n <;> rfl

theorem small_max (n : ℕ) (hn : n < 10) : IntOp.maxsi 0#32 (BitVec.ofNat 32 n) = BitVec.ofNat 32 n := by
  interval_cases n <;> rfl

/-- The position in the array of a position in the row. -/
abbrev unrow : S16777216.Idx ≃ S16384x1024.Idx := Shape.reshapeEquiv shapeCasts_S16384x1024_S16777216

include hT in
theorem rowW_apply (p : S16777216.Idx) : rowW (binW X T) p = BitVec.ofNat 32 (kOf X T (unrow p)) := by
  have hlt := (bin_spec (X (unrow p)) (T (unrow p)) (hT _).1 (hT _).2).2
  show IntOp.maxsi 0#32 (binW X T (unrow p)) = _
  rw [binW_apply X T hT, small_max _ hlt]

include hT in
theorem indexW_apply (p : Fin 16777216) : indexW (rowW (binW X T)) (ix2 p (0 : Fin 1)) = BitVec.ofNat 32 (kOf X T (unrow (ix1 p))) := by
  have hlt := (bin_spec (X (unrow (ix1 p))) (T (unrow (ix1 p))) (hT _).1 (hT _).2).2
  unfold indexW
  rw [Idealize.ShloMosaic.broadcastInDim_apply _ _ _ _ (ix1 p) (by intro a; match a with | ⟨0, _⟩ => rfl)]
  show Scalar.select (IntOp.cmpi .slt (rowW (binW X T) (ix1 p)) 0#32) _ (rowW (binW X T) (ix1 p)) = _
  rw [rowW_apply X T hT, small_not_neg _ hlt]
  rfl

include hT in
theorem histW_apply (b : Fin 10) : histW (binW X T) (ix1 b) = BitVec.ofNat 32 (Ghm.count (kOf X T) b.val) := by
  have h := scatter_ones scatter_S10_S16777216x1_S16777216_n_0_0_1 rfl rfl rfl (broadcastInDim S10 ![] bcast_S_S10 (constantI S_ 32 0#32)) (fun _ => rfl)
    (indexW (rowW (binW X T))) (broadcastInDim S16777216 ![] bcast_S_S16777216 (constantI S_ 32 1#32)) (fun _ => rfl) (fun p => kOf X T (unrow p))
    (fun p => indexW_apply X T hT p) (fun p => lt_trans (bin_spec (X (unrow p)) (T (unrow p)) (hT _).1 (hT _).2).2 (by norm_num)) b
  refine h.trans (congrArg _ ?_)
  unfold Ghm.count
  exact Finset.card_equiv unrow (fun i => by simp)

theorem count_le (b : ℕ) : Ghm.count (kOf X T) b ≤ 16777216 := by
  refine (Finset.card_le_univ _).trans ?_
  rw [← Fintype.card_congr unrow, ← Fintype.card_congr (Shape.rowMajor S16777216).symm, Fintype.card_fin]
  rfl

/-- The histogram as extended reals. -/
abbrev histV : FVec Ideal S10 .f32 := sitofp .f32 (histW (binW X T))

include hT in
theorem histV_apply (b : Fin 10) : histV X T (ix1 b) = ((Ghm.count (kOf X T) b.val : ℝ) : EReal) := by
  show (((histW (binW X T) (ix1 b)).toInt : ℝ) : EReal) = _
  rw [histW_apply X T hT, StableHlo.Predicate.toInt_ofNat_small _ (lt_of_le_of_lt (count_le X T _) (by norm_num))]
  norm_cast

include hT in
theorem filledW_apply (j : S_.Idx) : filledW (histV X T) j = BitVec.ofNat 32 (filled (kOf X T)) := by
  unfold filledW
  rw [Host.reduce_eq_fold]
  refine (IndicatorCount.fold_addi_setWidth_eq_card (w := 32) (fun i : S10.Idx => cmpf .ogt (histV X T) (broadcastInDim S10 ![] bcast_S_S10 (constant S_ .f32 0x00000000#32)) i) _).trans (congrArg _ ?_)
  unfold filled
  have hp : ∀ b : Fin 10, cmpf .ogt (histV X T) (broadcastInDim S10 ![] bcast_S_S10 (constant S_ .f32 0x00000000#32)) (ix1 b) = 1#1 ↔ 0 < Ghm.count (kOf X T) b.val := by
    intro b
    show BitVec.ofBool (decide (Ideal.ofBits .f32 0x00000000#32 < histV X T (ix1 b))) = 1#1 ↔ _
    rw [StableHlo.Predicate.ofBool_eq_one_iff, decide_eq_true_iff, histV_apply X T hT, Ideal.ofBits_zero_f32, ← EReal.coe_zero, EReal.coe_lt_coe_iff]
    exact Nat.cast_pos
  symm
  refine Finset.card_bij (fun b _ => ix1 b) (fun b hb => ?_) (fun a _ b _ h => ?_) (fun i hi => ⟨i 0, ?_, (eq_ix1 i).symm⟩)
  · rw [Finset.mem_filter, Finset.mem_filter]
    exact ⟨⟨Finset.mem_univ _, funext fun a => a.elim0⟩, (hp b).2 (Finset.mem_filter.1 hb).2⟩
  · exact congrFun h 0
  · have h1 := (Finset.mem_filter.1 hi).2
    rw [eq_ix1 i] at h1
    exact Finset.mem_filter.2 ⟨Finset.mem_univ (α := Fin 10) _, (hp (i 0)).1 h1⟩

theorem filled_le (k : S16384x1024.Idx → ℕ) : filled k ≤ 10 := by
  refine (Finset.card_le_univ _).trans ?_
  rw [Fintype.card_fin]

include hT in
theorem weight_apply (b : Fin 10) : weight (histV X T) (ix1 b) = Ideal.div ((16777216 : ℝ) : EReal) ((density (kOf X T) b.val : ℝ) : EReal) := by
  have h : weight (histV X T) (ix1 b) = Ideal.div (Ideal.ofBits .f32 0x4B800000#32) (max (Ideal.ofBits .f32 0x38D1B717#32) (histV X T (ix1 b) * (((filledW (histV X T) ix0).toInt : ℝ) : EReal))) := by
    unfold weight
    rw [hostDivf_apply, broadcastInDim_scalar_apply, maximumf_apply, broadcastInDim_scalar_apply, mulf_apply, broadcastInDim_scalar_apply]
    rfl
  rw [h, total_eq, eps_eq, histV_apply X T hT, filledW_apply X T hT, StableHlo.Predicate.toInt_ofNat_small _ (lt_of_le_of_lt (filled_le _) (by norm_num))]
  refine congrArg (Ideal.div _) ?_
  unfold density
  rw [max_comm, Int.cast_natCast, ← EReal.coe_mul]
  exact (EReal.coe_strictMono.monotone.map_max).symm

include hT in
theorem lookW_apply (i : S16384x1024.Idx) : lookW (binW X T) (takeIdx i) = BitVec.ofNat 32 (kOf X T i) := by
  have hlt := (bin_spec (X i) (T i) (hT i).1 (hT i).2).2
  unfold lookW
  rw [Idealize.ShloMosaic.broadcastInDim_apply _ _ _ _ i (by intro a; match a with | ⟨0, _⟩ => rfl | ⟨1, _⟩ => rfl)]
  show Scalar.select (IntOp.cmpi .slt (binW X T i) 0#32) _ (binW X T i) = _
  rw [binW_apply X T hT, small_not_neg _ hlt]
  rfl

include hT in
/-- THE REFERENCE'S VALUE: where every target lies between 0 and 1 its one element is the ten-bin loss of the elements' bins and cross entropies. -/
theorem lossV_apply (j : S_.Idx) : lossV X T j = loss (kOf X T) (fun i => bce (X i) (T i)) := by
  have hk : ∀ i, kOf X T i < 10 := fun i => (bin_spec (X i) (T i) (hT i).1 (hT i).2).2
  have hsum : ∀ i, mulf (Host.gather gather_S10_S16384x1024x1_S16384x1024_n_0_n_n_0_2_1 (weight (histV X T)) (lookW (binW X T))) (bceV X T) i
      = Ideal.div ((16777216 : ℝ) : EReal) ((density (kOf X T) (kOf X T i) : ℝ) : EReal) * bce (X i) (T i) := by
    intro i
    rw [mulf_apply]
    have hg := gather_take_apply (N := 10) (R := 16384) (C := 1024) (by norm_num) gather_S10_S16384x1024x1_S16384x1024_n_0_n_n_0_2_1_wf (weight (histV X T)) (lookW (binW X T)) i
    have hg' : Host.gather gather_S10_S16384x1024x1_S16384x1024_n_0_n_n_0_2_1 (weight (histV X T)) (lookW (binW X T)) i = weight (histV X T) (ix1 ⟨kOf X T i, hk i⟩) := by
      refine hg.trans (congrArg (fun z => weight (histV X T) (ix1 z)) (Fin.ext ?_))
      show min (lookW (binW X T) (takeIdx i)).toInt.toNat (10 - 1) = kOf X T i
      rw [lookW_apply X T hT, StableHlo.Predicate.toInt_ofNat_small _ (lt_trans (hk i) (by norm_num))]
      have := hk i
      omega
    rw [hg', weight_apply X T hT]
    refine congrArg (fun z : EReal => Ideal.div ((16777216 : ℝ) : EReal) ((density (kOf X T) (kOf X T i) : ℝ) : EReal) * z) ?_
    have hb : bceV X T i = max (X i) (Ideal.ofBits .f32 0x00000000#32) - X i * T i + Ideal.log1p (Ideal.exp (-(max (X i) (-(X i))))) := rfl
    rw [hb, Ideal.ofBits_zero_f32]
    rfl
  rw [← loss_eq_mean (kOf X T) hk _ 16777216 (by norm_num), ← Finset.sum_congr rfl fun i _ => hsum i]
  unfold lossV
  rw [hostDivf_apply, hostReduceAdd_apply, Ideal.hostReduceAdd_total _ (fun b => b.elim0)]
  have h0 : constant (F := Ideal) S_ .f32 0x00000000#32 (Shape.Idx.first h_S_) = 0 := Ideal.ofBits_zero_f32
  have hN : constant (F := Ideal) S_ .f32 0x4B800000#32 j = ((16777216 : ℝ) : EReal) := total_eq
  rw [h0, zero_add, hN]

end Cert.ReferenceIdeal.Loss

end
-- ==== Proof.Slabs.lean ====
/- The kernel's block, slab by slab: what the 128 slabs of one block add to a bin's count and to its sum. -/
module

public import proofs.«01_k».proof.Proof.Gen.KernelIdeal.Frame.Runs

@[expose] public section

noncomputable section

namespace Cert.KernelIdeal.Slabs

open Cert.KernelIdeal Cert.KernelIdeal.Gen Idealize.ShloMosaic

variable {F : FTy → Type} [FloatOps F] [Named F]

/-- A slab lies inside its block. -/
theorem slab_inb (n : ℕ) : ∀ a, (![16 * (n / 8 % 16), 128 * (n % 8)] : Fin 2 → ℕ) a + S16x128.size a ≤ S256x1024.size a
  | ⟨0, _⟩ => by show 16 * (n / 8 % 16) + 16 ≤ 256; omega
  | ⟨1, _⟩ => by show 128 * (n % 8) + 128 ≤ 1024; omega

/-- Slab `n` of a staged block, as the kernel loads it. -/
def slab (a : Memref sig .tc .vmem S256x1024 .f32) (h : a.IsWhole) (x : Vec F S256x1024 .f32) (n : ℕ) : Vec F S16x128 .f32 :=
  View.readAt (Elt F) a.view (Rect.unit (s := S256x1024) ![16 * (n / 8 % 16), 128 * (n % 8)] S16x128.size (slab_inb n)).toLoadRect (h.unread x)

/-- One at every place of a slab. -/
def ones : FVec F S16x128 .bf16 := broadcast S16x128 (Scalar.ofBits .bf16 0x3F80#16)

/-- What the first `n` slabs add to the bin whose label is the pattern `b`: slab `k` adds `vals k` where `bins k` is the label. -/
def tally (bins vals : ℕ → FVec F S16x128 .bf16) (b : BitVec 16) : ℕ → FVec F S16x128 .bf16
  | 0 => k0_pay33
  | n + 1 => addf (tally bins vals b n) (select (cmpf .oeq (bins n) (broadcast S16x128 (Scalar.ofBits .bf16 b))) (vals n) k0_pay33)

variable (a1 : Memref sig .tc .vmem S256x1024 .f32) (h1 : a1.IsWhole) (a2 : Memref sig .tc .vmem S256x1024 .f32) (h2 : a2.IsWhole)
  (x t : Vec F S256x1024 .f32)

/-- The bins of slab `n`. -/
def binS (n : ℕ) : FVec F S16x128 .bf16 := k0_pay35 (slab a1 h1 x n) (slab a2 h2 t n)

/-- The cross entropies of slab `n`. -/
def bceS (n : ℕ) : FVec F S16x128 .bf16 := k0_pay36 (slab a1 h1 x n) (slab a2 h2 t n)

/-- How many of the block's elements fall in a bin, place by place of the slab. -/
def countS (b : BitVec 16) : FVec F S16x128 .bf16 := tally (binS a1 h1 a2 h2 x t) (fun _ => ones) b 128

/-- The block's cross entropies that fall in a bin, summed place by place of the slab. -/
def sumS (b : BitVec 16) : FVec F S16x128 .bf16 := tally (binS a1 h1 a2 h2 x t) (bceS a1 h1 a2 h2 x t) b 128

end Cert.KernelIdeal.Slabs

end
-- ==== Proof.Stores.lean ====
/- What one block leaves in the kernel's scratch arrays and, after the last block, in its output. -/
module

public import proofs.«01_k».proof.Proof.Slabs

@[expose] public section

noncomputable section

namespace Cert.KernelIdeal.Slabs

open Cert.KernelIdeal Cert.KernelIdeal.Gen Idealize.ShloMosaic

variable {F : FTy → Type} [FloatOps F] [Named F]

/-- The label of a bin: the number as a bf16 pattern. -/
def label : ℕ → BitVec 16
  | 0 => 0x0000#16
  | 1 => 0x3F80#16
  | 2 => 0x4000#16
  | 3 => 0x4040#16
  | 4 => 0x4080#16
  | 5 => 0x40A0#16
  | 6 => 0x40C0#16
  | 7 => 0x40E0#16
  | 8 => 0x4100#16
  | _ => 0x4110#16

/-- A bin's sixteen rows lie inside the scratch array. -/
theorem band_inb (n : ℕ) : ∀ a, (![16 * (n % 10), 0] : Fin 2 → ℕ) a + S16x128.size a ≤ S160x128.size a
  | ⟨0, _⟩ => by show 16 * (n % 10) + 16 ≤ 160; omega
  | ⟨1, _⟩ => by show 0 + 128 ≤ 128; omega

/-- The sixteen rows of a scratch array that belong to bin `n`. -/
abbrev band (n : ℕ) : Rect S160x128 := Rect.unit (s := S160x128) ![16 * (n % 10), 0] S16x128.size (band_inb n)

/-- The stores into a scratch array of the first `n` bins, over earlier contents: each bin's rows with what the block adds. -/
def stores (old : ℕ → Vec F S16x128 .f32) (add : ℕ → FVec F S16x128 .bf16) : ℕ → List (View.Piece (Elt F) S160x128 .f32)
  | 0 => []
  | n + 1 => ⟨band n, k0_pay2 (add n) (old n)⟩ :: stores old add n

/-- The same stores over a first one, of the whole array, with each bin's rows read back through what was stored before. -/
def storesOver (v : View sig .tc .vmem S160x128 .f32) (z : View.Piece (Elt F) S160x128 .f32) (add : ℕ → FVec F S16x128 .bf16) :
    ℕ → List (View.Piece (Elt F) S160x128 .f32)
  | 0 => [z]
  | n + 1 => ⟨band n, k0_pay2 (add n) (v.readCov (storesOver v z add n) (band n).toLoadRect)⟩ :: storesOver v z add n

/-- The store of a whole scratch array. -/
abbrev fill (z : FVec F S160x128 .f32) : View.Piece (Elt F) S160x128 .f32 :=
  ⟨Rect.unit (s := S160x128) ![0, 0] S160x128.size inb_S160x128_S160x128_0_0, z⟩

/-- The number of bins, of the first `n`, whose count is above zero. -/
def filledF (cnt : ℕ → F .f32) : ℕ → F .f32
  | 0 => Scalar.ofBits .f32 0x00000000#32
  | n + 1 => Scalar.addf (filledF cnt n)
      (Scalar.select (Scalar.cmpf .ogt (cnt n) (Scalar.ofBits .f32 0x00000000#32)) (Scalar.ofBits .f32 0x3F800000#32) (Scalar.ofBits .f32 0x00000000#32))

/-- The first `n` bins' sums, each divided by its bin's density. -/
def lossF (cnt sum : ℕ → F .f32) (e : F .f32) : ℕ → F .f32
  | 0 => Scalar.ofBits .f32 0x00000000#32
  | n + 1 => Scalar.addf (lossF cnt sum e n) (Scalar.divf (sum n) (Scalar.maximumf (Scalar.mulf (cnt n) e) (Scalar.ofBits .f32 0x38D1B717#32)))

/-- The output, from the ten bins' rows of the two scratch arrays. -/
def finish (cnt sum : ℕ → Vec F S16x128 .f32) : FVec F S8x128 .f32 :=
  broadcast S8x128 (lossF (fun b => k0_pay6 (cnt b)) (fun b => k0_pay6 (sum b)) (filledF (fun b => k0_pay6 (cnt b)) 10) 10)

end Cert.KernelIdeal.Slabs

end
-- ==== Proof.SlabValues.lean ====
/- The slabs read over the extended reals: a bin's count and sum in a block, place by place, as sums over the 128 slabs. -/
module

public import proofs.«01_k».proof.Proof.Stores
public import proofs.«01_k».proof.Proof.Totals
public import Idealize.ShloMosaic.Lib.IdealHost
public import Idealize.ShloMosaic.Lib.Pointwise.ElementwiseCore
public import Idealize.ShloMosaic.Lib.Pipeline.ValueKit.Tiles

@[expose] public section

noncomputable section

namespace Cert.KernelIdeal.Slabs

open Cert.KernelIdeal Cert.KernelIdeal.Gen Idealize.ShloMosaic Idealize.ShloMosaic.ValueIdx Cert.Ghm
open scoped BigOperators

/-- Where place `p` of slab `n` lies in its block. -/
def inBlock (n : ℕ) (p : S16x128.Idx) : S256x1024.Idx :=
  ix2 ⟨16 * (n / 8 % 16) + (p 0).val, by have h : (p 0).val < 16 := (p 0).isLt; show _ < 256; omega⟩
    ⟨128 * (n % 8) + (p 1).val, by have h : (p 1).val < 128 := (p 1).isLt; show _ < 1024; omega⟩

theorem slab_apply (a : Memref sig .tc .vmem S256x1024 .f32) (h : a.IsWhole) (x : Vec Ideal S256x1024 .f32) (n : ℕ) (p : S16x128.Idx) :
    slab a h x n p = x (inBlock n p) := by
  unfold slab
  rw [View.readAt_eq_ld, h.read_unread]
  refine congrArg x (funext fun b => Fin.ext ?_)
  refine (Rect.idx_unit_val _ _ _ _ _).trans ?_
  match b with
  | ⟨0, _⟩ => rfl
  | ⟨1, _⟩ => rfl

theorem pay34_apply (x : Vec Ideal S16x128 .f32) (p : S16x128.Idx) : k0_pay34 (F := Ideal) x p = halfTanh (x p) := by
  have h : k0_pay34 (F := Ideal) x p = Ideal.ofBits .f32 0x3F000000#32 * Ideal.tanh (max (x p) (-(x p)) * Ideal.ofBits .f32 0x3F000000#32) + Ideal.ofBits .f32 0x3F000000#32 := rfl
  rw [h, half_eq]
  rfl

/-- A slab's bins: each place's bin, as a real number's floor. -/
theorem pay35_apply (x t : Vec Ideal S16x128 .f32) (p : S16x128.Idx) : k0_pay35 (F := Ideal) x t p = binE (x p) (t p) := by
  have h : k0_pay35 (F := Ideal) x t p = Ideal.liftRound Int.floor (max (Scalar.select (BitVec.ofBool (decide (Ideal.ofBits .f32 0x00000000#32 ≤ x p))) (k0_pay34 (F := Ideal) x p) (Ideal.ofBits .f32 0x3F800000#32 - k0_pay34 (F := Ideal) x p) - t p) (-(Scalar.select (BitVec.ofBool (decide (Ideal.ofBits .f32 0x00000000#32 ≤ x p))) (k0_pay34 (F := Ideal) x p) (Ideal.ofBits .f32 0x3F800000#32 - k0_pay34 (F := Ideal) x p) - t p)) * Ideal.ofBits .f32 0x411FFF97#32) := rfl
  have hs : Scalar.select (BitVec.ofBool (decide (Ideal.ofBits .f32 0x00000000#32 ≤ x p))) (k0_pay34 (F := Ideal) x p) (Ideal.ofBits .f32 0x3F800000#32 - k0_pay34 (F := Ideal) x p) = Ideal.logistic (x p) := by
    rw [← halfTanh_logistic, Ideal.ofBits_zero_f32, one_eq, pay34_apply]
    by_cases hx : 0 ≤ x p
    · rw [if_pos hx, decide_eq_true hx]; rfl
    · rw [if_neg hx, decide_eq_false hx]; rfl
  rw [h, hs, scale_eq]
  rfl

/-- The named constant `inv_ln2` is `1 / log 2`. -/
theorem inv_ln2_eq : Idealize.ShloMosaic.named κ "inv_ln2" 0x3FB8AA3B#32 = (((Real.log 2)⁻¹ : ℝ) : EReal) := Idealize.ShloMosaic.named_eq κ _ _

/-- The named constant `ln2` is `log 2`. -/
theorem ln2_eq : Idealize.ShloMosaic.named κ "ln2" 0x3F317218#32 = ((Real.log 2 : ℝ) : EReal) := Idealize.ShloMosaic.named_eq κ _ _

/-- A slab's cross entropies. -/
theorem pay36_apply (x t : Vec Ideal S16x128 .f32) (p : S16x128.Idx) : k0_pay36 (F := Ideal) x t p = bce (x p) (t p) := by
  unfold k0_pay36
  simp only [pointwise]
  show max (x p) (Ideal.ofBits .f32 0x00000000#32) - x p * t p - Ideal.log (k0_pay34 (F := Ideal) x p) * Idealize.ShloMosaic.named κ "inv_ln2" 0x3FB8AA3B#32 * Idealize.ShloMosaic.named κ "ln2" 0x3F317218#32 = _
  rw [Ideal.ofBits_zero_f32, pay34_apply, inv_ln2_eq, ln2_eq, bce_eq_log]

theorem zero_apply (p : S16x128.Idx) : k0_pay33 (F := Ideal) p = 0 := Ideal.ofBits_zero_bf16

/-- A tally, read at a place: the slabs' values there whose bin is the label, summed. -/
theorem tally_apply (bins vals : ℕ → FVec Ideal S16x128 .bf16) (b : BitVec 16) (n : ℕ) (p : S16x128.Idx) :
    tally bins vals b n p = ∑ k ∈ Finset.range n, if bins k p = Ideal.ofBits .bf16 b then vals k p else 0 := by
  induction n with
  | zero => exact zero_apply p
  | succ n ih =>
    rw [Finset.sum_range_succ, ← ih]
    have h : tally bins vals b (n + 1) p = tally bins vals b n p + Scalar.select (BitVec.ofBool (decide (bins n p = Ideal.ofBits .bf16 b))) (vals n p) (k0_pay33 (F := Ideal) p) := rfl
    rw [h, zero_apply]
    by_cases hb : bins n p = Ideal.ofBits .bf16 b
    · rw [if_pos hb, decide_eq_true hb]; rfl
    · rw [if_neg hb, decide_eq_false hb]; rfl

/-- A bin's label is the bin's number. -/
theorem label_eq (b : ℕ) (hb : b < 10) : Ideal.ofBits .bf16 (label b) = ((b : ℝ) : EReal) := by
  interval_cases b <;> simp [label, Ideal.ofBits, Ideal.ieee] <;> norm_num [← EReal.coe_one, ← EReal.coe_mul]

theorem ones_apply (p : S16x128.Idx) : ones (F := Ideal) p = 1 := by
  show Ideal.ofBits .bf16 0x3F80#16 = 1
  rw [show (0x3F80#16 : BitVec 16) = label 1 from rfl, label_eq 1 (by norm_num)]
  norm_num

variable (a1 : Memref sig .tc .vmem S256x1024 .f32) (h1 : a1.IsWhole) (a2 : Memref sig .tc .vmem S256x1024 .f32) (h2 : a2.IsWhole)
  (x t : Vec Ideal S256x1024 .f32) (ht : ∀ i, 0 ≤ t i ∧ t i ≤ 1)

include ht in
theorem bins_apply (n : ℕ) (p : S16x128.Idx) (b : ℕ) (hb : b < 10) :
    binS (F := Ideal) a1 h1 a2 h2 x t n p = Ideal.ofBits .bf16 (label b) ↔ bin (x (inBlock n p)) (t (inBlock n p)) = b := by
  unfold binS
  rw [pay35_apply, slab_apply, slab_apply, label_eq b hb, (bin_spec _ _ (ht _).1 (ht _).2).1, EReal.coe_eq_coe_iff, Nat.cast_inj]

include ht in
/-- THE BLOCK'S COUNT for a bin, place by place: how many of the place's 128 elements fall in the bin. -/
theorem countS_apply (b : ℕ) (hb : b < 10) (p : S16x128.Idx) :
    countS (F := Ideal) a1 h1 a2 h2 x t (label b) p = ∑ k ∈ Finset.range 128, if bin (x (inBlock k p)) (t (inBlock k p)) = b then (1 : EReal) else 0 := by
  unfold countS
  rw [tally_apply]
  refine Finset.sum_congr rfl fun k _ => ?_
  rw [ones_apply]
  exact if_congr (bins_apply a1 h1 a2 h2 x t ht k p b hb) rfl rfl

include ht in
/-- THE BLOCK'S SUM for a bin, place by place: the cross entropies of the place's 128 elements that fall in the bin. -/
theorem sumS_apply (b : ℕ) (hb : b < 10) (p : S16x128.Idx) :
    sumS (F := Ideal) a1 h1 a2 h2 x t (label b) p = ∑ k ∈ Finset.range 128, if bin (x (inBlock k p)) (t (inBlock k p)) = b then bce (x (inBlock k p)) (t (inBlock k p)) else 0 := by
  unfold sumS
  rw [tally_apply]
  refine Finset.sum_congr rfl fun k _ => ?_
  have hv : bceS (F := Ideal) a1 h1 a2 h2 x t k p = bce (x (inBlock k p)) (t (inBlock k p)) := by
    unfold bceS
    rw [pay36_apply, slab_apply, slab_apply]
  rw [hv]
  exact if_congr (bins_apply a1 h1 a2 h2 x t ht k p b hb) rfl rfl

end Cert.KernelIdeal.Slabs

end
-- ==== Proof.Places.lean ====
/- The places of the 64 blocks' 128 slabs are the places of the whole array, each once. -/
module

public import proofs.«01_k».proof.Proof.SlabValues
public import Mathlib.Algebra.BigOperators.Fin

@[expose] public section

noncomputable section

namespace Cert.KernelIdeal.Slabs

open Cert.KernelIdeal Cert.KernelIdeal.Gen Idealize.ShloMosaic Idealize.ShloMosaic.ValueIdx Cert.Ghm
open scoped BigOperators

/-- Where place `y` of block `s` lies in the whole array. -/
def inArray (s : ℕ) (y : S256x1024.Idx) : S16384x1024.Idx :=
  ix2 (⟨256 * (s % 64) + (y 0).val, by have : (y 0).val < 256 := (y 0).isLt; omega⟩ : Fin 16384) (⟨(y 1).val, (y 1).isLt⟩ : Fin 1024)

theorem inArray_fst (s : ℕ) (y : S256x1024.Idx) : (inArray s y 0).val = 256 * (s % 64) + (y 0).val := rfl

theorem inArray_snd (s : ℕ) (y : S256x1024.Idx) : (inArray s y 1).val = (y 1).val := rfl

theorem inBlock_fst (n : ℕ) (p : S16x128.Idx) : (inBlock n p 0).val = 16 * (n / 8 % 16) + (p 0).val := rfl

theorem inBlock_snd (n : ℕ) (p : S16x128.Idx) : (inBlock n p 1).val = 128 * (n % 8) + (p 1).val := rfl

/-- A place of a slab, a block and a slab, against the place of the array they name. -/
def places : S16x128.Idx × Fin 64 × Fin 128 ≃ S16384x1024.Idx where
  toFun q := inArray q.2.1.val (inBlock q.2.2.val q.1)
  invFun i := (ix2 (⟨(i 0).val % 16, by omega⟩ : Fin 16) (⟨(i 1).val % 128, by omega⟩ : Fin 128),
    ⟨(i 0).val / 256, by have : (i 0).val < 16384 := (i 0).isLt; omega⟩,
    ⟨8 * ((i 0).val % 256 / 16) + (i 1).val / 128, by have : (i 1).val < 1024 := (i 1).isLt; omega⟩)
  left_inv := by
    rintro ⟨p, s, k⟩
    have hp0 : (p 0).val < 16 := (p 0).isLt
    have hp1 : (p 1).val < 128 := (p 1).isLt
    have hs := s.isLt
    have hk := k.isLt
    refine Prod.ext (funext fun a => Fin.ext ?_) (Prod.ext (Fin.ext ?_) (Fin.ext ?_))
    · match a with
      | ⟨0, _⟩ =>
        show (inArray s.val (inBlock k.val p) 0).val % 16 = (p 0).val
        rw [inArray_fst, inBlock_fst]; omega
      | ⟨1, _⟩ =>
        show (inArray s.val (inBlock k.val p) 1).val % 128 = (p 1).val
        rw [inArray_snd, inBlock_snd]; omega
    · show (inArray s.val (inBlock k.val p) 0).val / 256 = s.val
      rw [inArray_fst, inBlock_fst]; omega
    · show 8 * ((inArray s.val (inBlock k.val p) 0).val % 256 / 16) + (inArray s.val (inBlock k.val p) 1).val / 128 = k.val
      rw [inArray_fst, inBlock_fst, inArray_snd, inBlock_snd]; omega
  right_inv := by
    intro i
    have h0 : (i 0).val < 16384 := (i 0).isLt
    have h1 : (i 1).val < 1024 := (i 1).isLt
    refine funext fun a => Fin.ext ?_
    match a with
    | ⟨0, _⟩ =>
      show 256 * ((i 0).val / 256 % 64) + (16 * ((8 * ((i 0).val % 256 / 16) + (i 1).val / 128) / 8 % 16) + (i 0).val % 16) = (i 0).val
      omega
    | ⟨1, _⟩ =>
      show 128 * ((8 * ((i 0).val % 256 / 16) + (i 1).val / 128) % 8) + (i 1).val % 128 = (i 1).val
      omega

/-- What the first `n` blocks' slabs add up to at place `p`. -/
def upTo (f : S16384x1024.Idx → EReal) (n : ℕ) (p : S16x128.Idx) : EReal :=
  ∑ s ∈ Finset.range n, ∑ k ∈ Finset.range 128, f (inArray s (inBlock k p))

theorem upTo_succ (f : S16384x1024.Idx → EReal) (n : ℕ) (p : S16x128.Idx) :
    upTo f (n + 1) p = upTo f n p + ∑ k ∈ Finset.range 128, f (inArray n (inBlock k p)) := Finset.sum_range_succ _ _

/-- Over all blocks and all places of a slab, the sum over the whole array. -/
theorem sum_upTo (f : S16384x1024.Idx → EReal) : ∑ p : S16x128.Idx, upTo f 64 p = ∑ i, f i := by
  rw [← Equiv.sum_comp places f, Fintype.sum_prod_type]
  refine Finset.sum_congr rfl fun p _ => ?_
  rw [Fintype.sum_prod_type]
  unfold upTo
  rw [Finset.sum_range]
  refine Finset.sum_congr rfl fun s _ => ?_
  rw [Finset.sum_range]
  rfl

end Cert.KernelIdeal.Slabs
-- ==== Proof.CaseA.lean ====
/- What the first block leaves in the two scratch arrays. -/
module

public import proofs.«01_k».proof.Proof.Gen.KernelIdeal.Frame.RunA
public import proofs.«01_k».proof.Proof.Stores

@[expose] public section

noncomputable section

namespace Cert.KernelIdeal.Slabs

open Cert.KernelIdeal Cert.KernelIdeal.Gen Idealize.ShloMosaic Idealize.ShloMosaic.TcCoe

variable {F : FTy → Type} [FloatOps F] [Named F]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x128 .f32) (harg3 : arg3.IsWhole) (arg4 : Memref sig .tc .vmem S160x128 .f32) (harg4 : arg4.IsWhole) (arg5 : Memref sig .tc .vmem S160x128 .f32) (harg5 : arg5.IsWhole) (hc0 : cond0_0 i) (hc1 : ¬cond0_1 i)
  (x0 : Vec F S256x1024 .f32) (x1 : Vec F S256x1024 .f32)

set_option maxRecDepth 100000 in
set_option maxHeartbeats 4000000 in
/-- The first block's stores into the counts: zero everywhere, then each bin's rows plus what the block adds. -/
theorem piecesA_0 : (kernelRun0_A c i arg1 harg1 arg2 harg2 arg3 harg3 arg4 harg4 arg5 harg5 hc0 hc1 x0 x1).2.1
    = storesOver arg4.view (fill k0_pay31) (fun b => countS arg1 harg1 arg2 harg2 x0 x1 (label b)) 10 := by
  unfold kernelRun0_A
  dsimp only
  simp only [storesOver, countS, tally, label]
  rfl

set_option maxRecDepth 100000 in
set_option maxHeartbeats 4000000 in
/-- The first block's stores into the sums: zero everywhere, then each bin's rows plus what the block adds. -/
theorem piecesA_1 : (kernelRun0_A c i arg1 harg1 arg2 harg2 arg3 harg3 arg4 harg4 arg5 harg5 hc0 hc1 x0 x1).2.2.1
    = storesOver arg5.view (fill k0_pay32) (fun b => sumS arg1 harg1 arg2 harg2 x0 x1 (label b)) 10 := by
  unfold kernelRun0_A
  dsimp only
  simp only [storesOver, sumS, tally, label]
  rfl

end

end Cert.KernelIdeal.Slabs

end
-- ==== Proof.CaseB.lean ====
/- What a block that is neither the first nor the last leaves in the two scratch arrays. -/
module

public import proofs.«01_k».proof.Proof.Gen.KernelIdeal.Frame.RunB
public import proofs.«01_k».proof.Proof.Stores

@[expose] public section

noncomputable section

namespace Cert.KernelIdeal.Slabs

open Cert.KernelIdeal Cert.KernelIdeal.Gen Idealize.ShloMosaic Idealize.ShloMosaic.TcCoe

variable {F : FTy → Type} [FloatOps F] [Named F]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x128 .f32) (harg3 : arg3.IsWhole) (arg4 : Memref sig .tc .vmem S160x128 .f32) (harg4 : arg4.IsWhole) (arg5 : Memref sig .tc .vmem S160x128 .f32) (harg5 : arg5.IsWhole) (hc0 : ¬cond0_0 i) (hc1 : ¬cond0_1 i)
  (x0 : Vec F S256x1024 .f32) (x1 : Vec F S256x1024 .f32) (xs0 : Vec F S160x128 .f32) (xs1 : Vec F S160x128 .f32)

set_option maxRecDepth 100000 in
set_option maxHeartbeats 4000000 in
/-- A middle block's stores into the counts: each bin's rows as found, plus what the block adds. -/
theorem piecesB_0 : (kernelRun0_B c i arg1 harg1 arg2 harg2 arg3 harg3 arg4 harg4 arg5 harg5 hc0 hc1 x0 x1 xs0 xs1).2.1
    = stores (fun b => View.readAt (Elt F) arg4.view (band b).toLoadRect (harg4.unread xs0)) (fun b => countS arg1 harg1 arg2 harg2 x0 x1 (label b)) 10 := by
  unfold kernelRun0_B
  dsimp only
  simp only [stores, countS, tally, label]
  rfl

set_option maxRecDepth 100000 in
set_option maxHeartbeats 4000000 in
/-- A middle block's stores into the sums: each bin's rows as found, plus what the block adds. -/
theorem piecesB_1 : (kernelRun0_B c i arg1 harg1 arg2 harg2 arg3 harg3 arg4 harg4 arg5 harg5 hc0 hc1 x0 x1 xs0 xs1).2.2.1
    = stores (fun b => View.readAt (Elt F) arg5.view (band b).toLoadRect (harg5.unread xs1)) (fun b => sumS arg1 harg1 arg2 harg2 x0 x1 (label b)) 10 := by
  unfold kernelRun0_B
  dsimp only
  simp only [stores, sumS, tally, label]
  rfl

end

end Cert.KernelIdeal.Slabs

end
-- ==== Proof.CaseC.lean ====
/- What the last block leaves in the two scratch arrays and in the output. -/
module

public import proofs.«01_k».proof.Proof.Gen.KernelIdeal.Frame.RunC
public import proofs.«01_k».proof.Proof.Stores

@[expose] public section

noncomputable section

namespace Cert.KernelIdeal.Slabs

open Cert.KernelIdeal Cert.KernelIdeal.Gen Idealize.ShloMosaic Idealize.ShloMosaic.TcCoe

variable {F : FTy → Type} [FloatOps F] [Named F]

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x128 .f32) (harg3 : arg3.IsWhole) (arg4 : Memref sig .tc .vmem S160x128 .f32) (harg4 : arg4.IsWhole) (arg5 : Memref sig .tc .vmem S160x128 .f32) (harg5 : arg5.IsWhole) (hc0 : ¬cond0_0 i) (hc1 : cond0_1 i)
  (x0 : Vec F S256x1024 .f32) (x1 : Vec F S256x1024 .f32) (xs0 : Vec F S160x128 .f32) (xs1 : Vec F S160x128 .f32)

set_option maxRecDepth 100000 in
set_option maxHeartbeats 4000000 in
/-- The last block's stores into the counts: each bin's rows as found, plus what the block adds. -/
theorem piecesC_0 : (kernelRun0_C c i arg1 harg1 arg2 harg2 arg3 harg3 arg4 harg4 arg5 harg5 hc0 hc1 x0 x1 xs0 xs1).2.1
    = stores (fun b => View.readAt (Elt F) arg4.view (band b).toLoadRect (harg4.unread xs0)) (fun b => countS arg1 harg1 arg2 harg2 x0 x1 (label b)) 10 := by
  unfold kernelRun0_C
  dsimp only
  simp only [stores, countS, tally, label]
  rfl

set_option maxRecDepth 100000 in
set_option maxHeartbeats 4000000 in
/-- The last block's stores into the sums: each bin's rows as found, plus what the block adds. -/
theorem piecesC_1 : (kernelRun0_C c i arg1 harg1 arg2 harg2 arg3 harg3 arg4 harg4 arg5 harg5 hc0 hc1 x0 x1 xs0 xs1).2.2.1
    = stores (fun b => View.readAt (Elt F) arg5.view (band b).toLoadRect (harg5.unread xs1)) (fun b => sumS arg1 harg1 arg2 harg2 x0 x1 (label b)) 10 := by
  unfold kernelRun0_C
  dsimp only
  simp only [stores, sumS, tally, label]
  rfl

set_option maxRecDepth 100000 in
set_option maxHeartbeats 4000000 in
/-- The last block's store into the output: the loss, from the two scratch arrays as its own stores leave them. -/
theorem piecesC_2 : (kernelRun0_C c i arg1 harg1 arg2 harg2 arg3 harg3 arg4 harg4 arg5 harg5 hc0 hc1 x0 x1 xs0 xs1).1
    = [⟨Rect.unit (s := S8x128) ![0, 0] S8x128.size inb_S8x128_S8x128_0_0, finish
        (fun b => arg4.view.readCov (stores (fun b => View.readAt (Elt F) arg4.view (band b).toLoadRect (harg4.unread xs0)) (fun b => countS arg1 harg1 arg2 harg2 x0 x1 (label b)) 10) (band b).toLoadRect)
        (fun b => arg5.view.readCov (stores (fun b => View.readAt (Elt F) arg5.view (band b).toLoadRect (harg5.unread xs1)) (fun b => sumS arg1 harg1 arg2 harg2 x0 x1 (label b)) 10) (band b).toLoadRect)⟩] := by
  rw [← piecesC_0 c i arg1 harg1 arg2 harg2 arg3 harg3 arg4 harg4 arg5 harg5 hc0 hc1 x0 x1 xs0 xs1, ← piecesC_1 c i arg1 harg1 arg2 harg2 arg3 harg3 arg4 harg4 arg5 harg5 hc0 hc1 x0 x1 xs0 xs1]
  unfold kernelRun0_C
  dsimp only
  simp only [finish, lossF, filledF]
  rfl

end

end Cert.KernelIdeal.Slabs

end
-- ==== Proof.StoreValues.lean ====
/- The scratch arrays and the output read over the extended reals, from the stores the blocks make. -/
module

public import proofs.«01_k».proof.Proof.SlabValues
public import Idealize.ShloMosaic.Lib.Pipeline.FrameBody
public import Idealize.ShloMosaic.Lib.Pipeline.ValueKit.Basic

@[expose] public section

noncomputable section

namespace Cert.KernelIdeal.Slabs

open Cert.KernelIdeal Cert.KernelIdeal.Gen Idealize.ShloMosaic Idealize.ShloMosaic.ValueIdx Cert.Ghm
open scoped BigOperators

/-- The scratch array's row and lane of place `p` of bin `n`. -/
def row (n : ℕ) (p : S16x128.Idx) : S160x128.Idx := (band n).emb p

theorem row_fst (n : ℕ) (p : S16x128.Idx) : (row n p 0).val = 16 * (n % 10) + (p 0).val := Rect.idx_unit_val _ _ _ _ _

theorem row_snd (n : ℕ) (p : S16x128.Idx) : (row n p 1).val = (p 1).val := (Rect.idx_unit_val _ _ _ _ _).trans (Nat.zero_add _)

/-- Two bins' rows do not meet. -/
theorem row_not_mem (n k : ℕ) (hn : n < 10) (hk : k < 10) (h : n ≠ k) (p : S16x128.Idx) : row n p ∉ (band k).set := by
  intro hm
  obtain ⟨q, hq⟩ := (band k).exists_idx_of_mem hm
  have e : row k q = row n p := hq
  have e0 := congrArg (fun y : S160x128.Idx => (y 0).val) e
  dsimp only at e0
  rw [row_fst, row_fst, Nat.mod_eq_of_lt hn, Nat.mod_eq_of_lt hk] at e0
  have hp : (p 0).val < 16 := (p 0).isLt
  have hq' : (q 0).val < 16 := (q 0).isLt
  omega

theorem pay2_apply (u : FVec Ideal S16x128 .bf16) (v : Vec Ideal S16x128 .f32) (p : S16x128.Idx) : k0_pay2 (F := Ideal) u v p = v p + u p := by
  unfold k0_pay2
  rw [shapeCast_self]
  rfl

/-- After the stores a bin's rows hold what was there and what the block adds. -/
theorem canon_stores (old : ℕ → Vec Ideal S16x128 .f32) (add : ℕ → FVec Ideal S16x128 .bf16) (b : ℕ) (p : S16x128.Idx) :
    ∀ n, n ≤ 10 → b < n → View.canon (stores old add n) (row b p) = old b p + add b p
  | 0, _, h => absurd h (Nat.not_lt_zero _)
  | n + 1, hn, h => by
    by_cases e : b = n
    · subst e
      exact (View.canon_cons_emb (band b) _ _ p).trans (pay2_apply _ _ p)
    · refine (View.canon_cons_of_not_mem ⟨band n, _⟩ _ (row_not_mem b n (by omega) (by omega) e p)).trans ?_
      exact canon_stores old add b p n (by omega) (by omega)

/-- After the first block's stores a bin's rows hold the fill and, once the bin is stored, what the block adds. -/
theorem canon_storesOver (v : View sig .tc .vmem S160x128 .f32) (z : FVec Ideal S160x128 .f32) (add : ℕ → FVec Ideal S16x128 .bf16) (b : ℕ) (hb : b < 10)
    (p : S16x128.Idx) : ∀ n, n ≤ 10 → View.canon (storesOver v (fill z) add n) (row b p) = z (row b p) + (if b < n then add b p else 0)
  | 0, _ => by
    rw [if_neg (Nat.not_lt_zero _), add_zero]
    exact congrFun (View.canon_cons_unit_lit (Val := Elt Ideal) (e := .f32) (S := S160x128) inb_S160x128_S160x128_0_0 z [] (fun a : Fin 2 => match a with | ⟨0, _⟩ => rfl | ⟨1, _⟩ => rfl)) _
  | n + 1, hn => by
    by_cases e : b = n
    · subst e
      refine (View.canon_cons_emb (band b) _ _ p).trans ((pay2_apply _ _ p).trans ?_)
      rw [View.readCov_eq_canon', if_pos (Nat.lt_succ_self b)]
      refine congrArg (· + add b p) ?_
      refine (canon_storesOver v z add b hb p b (by omega)).trans ?_
      rw [if_neg (Nat.lt_irrefl b), add_zero]
    · refine (View.canon_cons_of_not_mem ⟨band n, _⟩ _ (row_not_mem b n hb (by omega) e p)).trans ?_
      rw [canon_storesOver v z add b hb p n (by omega)]
      refine congrArg (_ + ·) (if_congr ?_ rfl rfl)
      omega

/-- A bin's rows of a scratch array, loaded. -/
theorem load_apply (a : Memref sig .tc .vmem S160x128 .f32) (h : a.IsWhole) (X : Vec Ideal S160x128 .f32) (b : ℕ) (p : S16x128.Idx) :
    View.readAt (Elt Ideal) a.view (band b).toLoadRect (h.unread X) p = X (row b p) := by
  rw [View.readAt_eq_ld, h.read_unread]
  rfl

/-! ## The last block's output -/

/-- A bin's rows summed to one number. -/
theorem pay6_apply (v : Vec Ideal S16x128 .f32) : k0_pay6 (F := Ideal) v = ∑ p : S16x128.Idx, v p := by
  unfold k0_pay6 extractAt
  refine (Ideal.multiReduction_add_total (s := S1x16x128) (t := S1) (axes := [1, 2]) (φ := .f32) (shapeCast S1x16x128 v shapeCasts_S16x128_S1x16x128) 0x00000000#32 reduces_S1x16x128_S1
    (fun b : Fin 1 => match b with | ⟨0, _⟩ => rfl) (.inl rfl) rfl _).trans ?_
  exact Equiv.sum_comp (Shape.reshapeEquiv shapeCasts_S16x128_S1x16x128) v

theorem filledF_apply (cnt : ℕ → EReal) (n : ℕ) : filledF (F := Ideal) cnt n = ∑ b ∈ Finset.range n, if 0 < cnt b then (1 : EReal) else 0 := by
  induction n with
  | zero => exact Ideal.ofBits_zero_f32
  | succ n ih =>
    rw [Finset.sum_range_succ, ← ih]
    have h : filledF (F := Ideal) cnt (n + 1) = filledF (F := Ideal) cnt n + Scalar.select (BitVec.ofBool (decide (Ideal.ofBits .f32 0x00000000#32 < cnt n))) (Ideal.ofBits .f32 0x3F800000#32) (Ideal.ofBits .f32 0x00000000#32) := rfl
    rw [h, one_eq, Ideal.ofBits_zero_f32]
    by_cases hc : 0 < cnt n
    · rw [if_pos hc, decide_eq_true hc]; rfl
    · rw [if_neg hc, decide_eq_false hc]; rfl

theorem lossF_apply (cnt sum : ℕ → EReal) (e : EReal) (n : ℕ) :
    lossF (F := Ideal) cnt sum e n = ∑ b ∈ Finset.range n, Ideal.div (sum b) (max (cnt b * e) (eps : EReal)) := by
  induction n with
  | zero => exact Ideal.ofBits_zero_f32
  | succ n ih =>
    rw [Finset.sum_range_succ, ← ih, ← eps_eq]
    rfl

/-- THE OUTPUT: with the ten bins' counts and sums over the elements `i`, it is the ten-bin loss at every place. -/
theorem finish_apply {ι : Type} [Fintype ι] (k : ι → ℕ) (c : ι → EReal) (cnt sum : ℕ → Vec Ideal S16x128 .f32)
    (hcnt : ∀ b, b < 10 → ∑ p : S16x128.Idx, cnt b p = ((count k b : ℝ) : EReal))
    (hsum : ∀ b, b < 10 → ∑ p : S16x128.Idx, sum b p = ∑ i, if k i = b then c i else 0) (y : S8x128.Idx) :
    finish (F := Ideal) cnt sum y = loss k c := by
  have hf : filledF (F := Ideal) (fun b => k0_pay6 (F := Ideal) (cnt b)) 10 = ((filled k : ℝ) : EReal) := by
    rw [filledF_apply, ← sum_filled, Finset.sum_range]
    refine Finset.sum_congr rfl fun b _ => ?_
    rw [pay6_apply, hcnt b.val b.isLt]
  show lossF (F := Ideal) (fun b => k0_pay6 (F := Ideal) (cnt b)) (fun b => k0_pay6 (F := Ideal) (sum b)) (filledF (F := Ideal) (fun b => k0_pay6 (F := Ideal) (cnt b)) 10) 10 = _
  rw [hf, lossF_apply, Finset.sum_range]
  unfold loss
  refine Finset.sum_congr rfl fun b _ => ?_
  rw [pay6_apply, pay6_apply, hcnt b.val b.isLt, hsum b.val b.isLt]
  refine congrArg (Ideal.div _) ?_
  unfold density
  rw [← EReal.coe_mul]
  exact (EReal.coe_strictMono.monotone.map_max).symm

end Cert.KernelIdeal.Slabs

end
-- ==== Proof.BlockValues.lean ====
/- What each kind of block leaves in the two scratch arrays, over the extended reals: at every bin's rows, what the block found there
   (nothing, at the first block) plus the block's own count and sum. -/
module

public import proofs.«01_k».proof.Proof.Gen.KernelIdeal.Frame
public import proofs.«01_k».proof.Proof.CaseA
public import proofs.«01_k».proof.Proof.CaseB
public import proofs.«01_k».proof.Proof.CaseC
public import proofs.«01_k».proof.Proof.StoreValues

@[expose] public section

noncomputable section

namespace Cert.KernelIdeal.Slabs

open Cert.KernelIdeal Cert.KernelIdeal.Gen Idealize.ShloMosaic Idealize.ShloMosaic.TcCoe Cert.Ghm
open scoped BigOperators

/-- What a block of scores `x` and targets `t` adds to bin `b`'s count at place `p`. -/
def addCount (x t : Vec Ideal S256x1024 .f32) (b : ℕ) (p : S16x128.Idx) : EReal :=
  ∑ k ∈ Finset.range 128, if bin (x (inBlock k p)) (t (inBlock k p)) = b then (1 : EReal) else 0

/-- What it adds to bin `b`'s sum at place `p`. -/
def addSum (x t : Vec Ideal S256x1024 .f32) (b : ℕ) (p : S16x128.Idx) : EReal :=
  ∑ k ∈ Finset.range 128, if bin (x (inBlock k p)) (t (inBlock k p)) = b then bce (x (inBlock k p)) (t (inBlock k p)) else 0

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x128 .f32) (harg3 : arg3.IsWhole) (arg4 : Memref sig .tc .vmem S160x128 .f32) (harg4 : arg4.IsWhole) (arg5 : Memref sig .tc .vmem S160x128 .f32) (harg5 : arg5.IsWhole) (hc0 : cond0_0 i) (hc1 : ¬cond0_1 i)
  (x0 : Vec Ideal S256x1024 .f32) (x1 : Vec Ideal S256x1024 .f32)
  (ht : ∀ i, 0 ≤ x1 i ∧ x1 i ≤ 1) (b : ℕ) (hb : b < 10) (p : S16x128.Idx)

include ht hb

/-- The first block's counts. -/
theorem soutA_0 : sout0_A_0 (F := Ideal) c i arg1 harg1 arg2 harg2 arg3 harg3 arg4 harg4 arg5 harg5 hc0 hc1 x0 x1 (row b p) = addCount x0 x1 b p := by
  unfold sout0_A_0
  rw [View.read_writes_junk_eq_canon, piecesA_0]
  refine (canon_storesOver arg4.view (k0_pay31 (F := Ideal)) _ b hb p 10 le_rfl).trans ?_
  rw [if_pos hb, show k0_pay31 (F := Ideal) (row b p) = 0 from Ideal.ofBits_zero_f32, zero_add]
  exact countS_apply arg1 harg1 arg2 harg2 x0 x1 ht b hb p

/-- The first block's sums. -/
theorem soutA_1 : sout0_A_1 (F := Ideal) c i arg1 harg1 arg2 harg2 arg3 harg3 arg4 harg4 arg5 harg5 hc0 hc1 x0 x1 (row b p) = addSum x0 x1 b p := by
  unfold sout0_A_1
  rw [View.read_writes_junk_eq_canon, piecesA_1]
  refine (canon_storesOver arg5.view (k0_pay32 (F := Ideal)) _ b hb p 10 le_rfl).trans ?_
  rw [if_pos hb, show k0_pay32 (F := Ideal) (row b p) = 0 from Ideal.ofBits_zero_f32, zero_add]
  exact sumS_apply arg1 harg1 arg2 harg2 x0 x1 ht b hb p

end

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x128 .f32) (harg3 : arg3.IsWhole) (arg4 : Memref sig .tc .vmem S160x128 .f32) (harg4 : arg4.IsWhole) (arg5 : Memref sig .tc .vmem S160x128 .f32) (harg5 : arg5.IsWhole) (hc0 : ¬cond0_0 i) (hc1 : ¬cond0_1 i)
  (x0 : Vec Ideal S256x1024 .f32) (x1 : Vec Ideal S256x1024 .f32) (xs0 : Vec Ideal S160x128 .f32) (xs1 : Vec Ideal S160x128 .f32)
  (ht : ∀ i, 0 ≤ x1 i ∧ x1 i ≤ 1) (b : ℕ) (hb : b < 10) (p : S16x128.Idx)

include ht hb

/-- The middle block's counts. -/
theorem soutB_0 : sout0_B_0 (F := Ideal) c i arg1 harg1 arg2 harg2 arg3 harg3 arg4 harg4 arg5 harg5 hc0 hc1 x0 x1 xs0 xs1 (row b p) = xs0 (row b p) + addCount x0 x1 b p := by
  unfold sout0_B_0
  rw [View.read_writes_junk_eq_canon, piecesB_0]
  refine (canon_stores _ _ b p 10 le_rfl hb).trans ?_
  rw [load_apply]
  exact congrArg (xs0 (row b p) + ·) (countS_apply arg1 harg1 arg2 harg2 x0 x1 ht b hb p)

/-- The middle block's sums. -/
theorem soutB_1 : sout0_B_1 (F := Ideal) c i arg1 harg1 arg2 harg2 arg3 harg3 arg4 harg4 arg5 harg5 hc0 hc1 x0 x1 xs0 xs1 (row b p) = xs1 (row b p) + addSum x0 x1 b p := by
  unfold sout0_B_1
  rw [View.read_writes_junk_eq_canon, piecesB_1]
  refine (canon_stores _ _ b p 10 le_rfl hb).trans ?_
  rw [load_apply]
  exact congrArg (xs1 (row b p) + ·) (sumS_apply arg1 harg1 arg2 harg2 x0 x1 ht b hb p)

end

section

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x128 .f32) (harg3 : arg3.IsWhole) (arg4 : Memref sig .tc .vmem S160x128 .f32) (harg4 : arg4.IsWhole) (arg5 : Memref sig .tc .vmem S160x128 .f32) (harg5 : arg5.IsWhole) (hc0 : ¬cond0_0 i) (hc1 : cond0_1 i)
  (x0 : Vec Ideal S256x1024 .f32) (x1 : Vec Ideal S256x1024 .f32) (xs0 : Vec Ideal S160x128 .f32) (xs1 : Vec Ideal S160x128 .f32)
  (ht : ∀ i, 0 ≤ x1 i ∧ x1 i ≤ 1) (b : ℕ) (hb : b < 10) (p : S16x128.Idx)

include ht hb

/-- The last block's counts. -/
theorem soutC_0 : sout0_C_0 (F := Ideal) c i arg1 harg1 arg2 harg2 arg3 harg3 arg4 harg4 arg5 harg5 hc0 hc1 x0 x1 xs0 xs1 (row b p) = xs0 (row b p) + addCount x0 x1 b p := by
  unfold sout0_C_0
  rw [View.read_writes_junk_eq_canon, piecesC_0]
  refine (canon_stores _ _ b p 10 le_rfl hb).trans ?_
  rw [load_apply]
  exact congrArg (xs0 (row b p) + ·) (countS_apply arg1 harg1 arg2 harg2 x0 x1 ht b hb p)

/-- The last block's sums. -/
theorem soutC_1 : sout0_C_1 (F := Ideal) c i arg1 harg1 arg2 harg2 arg3 harg3 arg4 harg4 arg5 harg5 hc0 hc1 x0 x1 xs0 xs1 (row b p) = xs1 (row b p) + addSum x0 x1 b p := by
  unfold sout0_C_1
  rw [View.read_writes_junk_eq_canon, piecesC_1]
  refine (canon_stores _ _ b p 10 le_rfl hb).trans ?_
  rw [load_apply]
  exact congrArg (xs1 (row b p) + ·) (sumS_apply arg1 harg1 arg2 harg2 x0 x1 ht b hb p)

omit hb in
/-- The last block's output is the ten-bin loss of any family whose counts and sums the scratch arrays then hold. -/
theorem outC_2 {ι : Type} [Fintype ι] (k : ι → ℕ) (e : ι → EReal)
    (hcnt : ∀ b, b < 10 → ∑ p : S16x128.Idx, (xs0 (row b p) + addCount x0 x1 b p) = ((Ghm.count k b : ℝ) : EReal))
    (hsum : ∀ b, b < 10 → ∑ p : S16x128.Idx, (xs1 (row b p) + addSum x0 x1 b p) = ∑ i, if k i = b then e i else 0) (y : S8x128.Idx) :
    out0_C_2 (F := Ideal) c i arg1 harg1 arg2 harg2 arg3 harg3 arg4 harg4 arg5 harg5 hc0 hc1 x0 x1 xs0 xs1 y = loss k e := by
  unfold out0_C_2
  rw [View.read_writes_junk_eq_canon, piecesC_2]
  refine (congrFun (View.canon_cons_unit_lit (Val := Elt Ideal) (e := .f32) (S := S8x128) inb_S8x128_S8x128_0_0 _ [] (fun a : Fin 2 => match a with | ⟨0, _⟩ => rfl | ⟨1, _⟩ => rfl)) y).trans ?_
  refine finish_apply k e _ _ (fun b hb => ?_) (fun b hb => ?_) y
  · rw [← hcnt b hb]
    refine Finset.sum_congr rfl fun p _ => ?_
    rw [View.readCov_eq_canon']
    refine (canon_stores _ _ b p 10 le_rfl hb).trans ?_
    rw [load_apply]
    exact congrArg (xs0 (row b p) + ·) (countS_apply arg1 harg1 arg2 harg2 x0 x1 ht b hb p)
  · rw [← hsum b hb]
    refine Finset.sum_congr rfl fun p _ => ?_
    rw [View.readCov_eq_canon']
    refine (canon_stores _ _ b p 10 le_rfl hb).trans ?_
    rw [load_apply]
    exact congrArg (xs1 (row b p) + ·) (sumS_apply arg1 harg1 arg2 harg2 x0 x1 ht b hb p)

end

end Cert.KernelIdeal.Slabs
-- ==== Proof.GridValue.lean ====
/- The kernel's grid read over the extended reals: what the two scratch arrays hold after every block, and the output after the last. -/
module

public import proofs.«01_k».proof.Proof.Places
public import proofs.«01_k».proof.Proof.BlockValues

@[expose] public section

noncomputable section

namespace Cert.KernelIdeal.Slabs

open Cert.KernelIdeal Cert.KernelIdeal.Gen Idealize.ShloMosaic Idealize.ShloMosaic.TcCoe Cert.Ghm
open scoped BigOperators

variable (m : (ℓ : Loc nD τ sig) → Buf (Elt Ideal) ℓ) (c : Dev nD)

/-- The scores, as the kernel's first argument holds them. -/
def scores : FVec Ideal S16384x1024 .f32 := m (c.tc.loc main_arg0)

/-- The targets, as its second argument holds them. -/
def targets : FVec Ideal S16384x1024 .f32 := m (c.tc.loc main_arg1)

/-- The bin of the element at a place of the array. -/
def kOf (i : S16384x1024.Idx) : ℕ := bin (scores m c i) (targets m c i)

/-- Its binary cross entropy. -/
def eOf (i : S16384x1024.Idx) : EReal := bce (scores m c i) (targets m c i)

/-- One where the element is in bin `b`, else nothing. -/
def oneOf (b : ℕ) (i : S16384x1024.Idx) : EReal := if kOf m c i = b then 1 else 0

/-- The cross entropy where the element is in bin `b`, else nothing. -/
def termOf (b : ℕ) (i : S16384x1024.Idx) : EReal := if kOf m c i = b then eOf m c i else 0

/-- Block `t` of each argument starts at row `256 * t`. -/
theorem starts : ∀ t : Fin cfg0.N, (win0_0.index t 0 = t.val ∧ win0_0.index t 1 = 0) ∧ (win0_1.index t 0 = t.val ∧ win0_1.index t 1 = 0) := by
  decide +kernel

/-- Block `t` of the scores. -/
theorem block_scores (t : Fin cfg0.N) (y : S256x1024.Idx) : (iblk m c 0 t : Vec Ideal S256x1024 .f32) y = scores m c (inArray t.val y) := by
  have hN : cfg0.N = 64 := N_0
  have ht := t.isLt
  unfold iblk
  rw [View.read_apply]
  show V m c main_arg0 _ = m (c.tc.loc main_arg0) _
  rw [V_main_arg0]
  refine congrArg (m (c.tc.loc main_arg0)) (funext fun a => Fin.ext ?_)
  match a with
  | ⟨0, _⟩ =>
    show win0_0.index t 0 * 256 + 1 * (y 0).val = 256 * (t.val % 64) + (y 0).val
    rw [(starts t).1.1]; omega
  | ⟨1, _⟩ =>
    show win0_0.index t 1 * 1024 + 1 * (y 1).val = (y 1).val
    rw [(starts t).1.2]; omega

/-- Block `t` of the targets. -/
theorem block_targets (t : Fin cfg0.N) (y : S256x1024.Idx) : (iblk m c 1 t : Vec Ideal S256x1024 .f32) y = targets m c (inArray t.val y) := by
  have hN : cfg0.N = 64 := N_0
  have ht := t.isLt
  unfold iblk
  rw [View.read_apply]
  show V m c main_arg1 _ = m (c.tc.loc main_arg1) _
  rw [V_main_arg1]
  refine congrArg (m (c.tc.loc main_arg1)) (funext fun a => Fin.ext ?_)
  match a with
  | ⟨0, _⟩ =>
    show win0_1.index t 0 * 256 + 1 * (y 0).val = 256 * (t.val % 64) + (y 0).val
    rw [(starts t).2.1]; omega
  | ⟨1, _⟩ =>
    show win0_1.index t 1 * 1024 + 1 * (y 1).val = (y 1).val
    rw [(starts t).2.2]; omega

/-- What block `t` adds to a count, by the array's elements. -/
theorem addCount_block (t : Fin cfg0.N) (b : ℕ) (p : S16x128.Idx) :
    addCount (iblk m c 0 t) (iblk m c 1 t) b p = ∑ k ∈ Finset.range 128, oneOf m c b (inArray t.val (inBlock k p)) := by
  unfold addCount oneOf kOf
  refine Finset.sum_congr rfl fun k _ => ?_
  rw [block_scores, block_targets]

/-- What it adds to a sum. -/
theorem addSum_block (t : Fin cfg0.N) (b : ℕ) (p : S16x128.Idx) :
    addSum (iblk m c 0 t) (iblk m c 1 t) b p = ∑ k ∈ Finset.range 128, termOf m c b (inArray t.val (inBlock k p)) := by
  unfold addSum termOf kOf eOf
  refine Finset.sum_congr rfl fun k _ => ?_
  rw [block_scores, block_targets]

section

variable (hT : ∀ i, 0 ≤ targets m c i ∧ targets m c i ≤ 1)
include hT

/-- The targets of a block are probabilities too. -/
theorem block_bounds (t : Fin cfg0.N) : let T : S256x1024.Idx → EReal := iblk m c 1 t
    ∀ y, 0 ≤ T y ∧ T y ≤ 1 := by
  intro T y
  have e : T y = targets m c (inArray t.val y) := block_targets m c t y
  rw [e]; exact hT _

/-- The first block's count at a bin's rows. -/
theorem countA (t : Fin cfg0.N) (h0 : t.val % 64 = 0) (h1 : ¬t.val % 64 = 63) (b : ℕ) (hb : b < 10) (p : S16x128.Idx) :
    (outsAt0 m c t.val t.isLt).2.1 (row b p) = ∑ k ∈ Finset.range 128, oneOf m c b (inArray t.val (inBlock k p)) := by
  rw [outsAt0_A m c t h0 h1]
  dsimp only
  exact (soutA_0 c _ _ _ _ _ _ _ _ _ _ _ _ _ _ _ (block_bounds m c hT t) b hb p).trans (addCount_block m c t b p)

/-- The first block's sum at a bin's rows. -/
theorem sumA (t : Fin cfg0.N) (h0 : t.val % 64 = 0) (h1 : ¬t.val % 64 = 63) (b : ℕ) (hb : b < 10) (p : S16x128.Idx) :
    (outsAt0 m c t.val t.isLt).2.2 (row b p) = ∑ k ∈ Finset.range 128, termOf m c b (inArray t.val (inBlock k p)) := by
  rw [outsAt0_A m c t h0 h1]
  dsimp only
  exact (soutA_1 c _ _ _ _ _ _ _ _ _ _ _ _ _ _ _ (block_bounds m c hT t) b hb p).trans (addSum_block m c t b p)

/-- The middle block's count at a bin's rows. -/
theorem countB (t : Fin cfg0.N) (h0 : ¬t.val % 64 = 0) (h1 : ¬t.val % 64 = 63) (b : ℕ) (hb : b < 10) (p : S16x128.Idx) :
    (outsAt0 m c t.val t.isLt).2.1 (row b p) = (outsAt0 m c (t.val - 1) (Nat.lt_of_le_of_lt (Nat.sub_le _ _) t.isLt)).2.1 (row b p) + ∑ k ∈ Finset.range 128, oneOf m c b (inArray t.val (inBlock k p)) := by
  rw [outsAt0_B m c t h0 h1]
  dsimp only
  exact (soutB_0 c _ _ _ _ _ _ _ _ _ _ _ _ _ _ _ _ _ (block_bounds m c hT t) b hb p).trans (congrArg (fun z : EReal => (outsAt0 m c (t.val - 1) (Nat.lt_of_le_of_lt (Nat.sub_le _ _) t.isLt)).2.1 (row b p) + z) (addCount_block m c t b p))

/-- The middle block's sum at a bin's rows. -/
theorem sumB (t : Fin cfg0.N) (h0 : ¬t.val % 64 = 0) (h1 : ¬t.val % 64 = 63) (b : ℕ) (hb : b < 10) (p : S16x128.Idx) :
    (outsAt0 m c t.val t.isLt).2.2 (row b p) = (outsAt0 m c (t.val - 1) (Nat.lt_of_le_of_lt (Nat.sub_le _ _) t.isLt)).2.2 (row b p) + ∑ k ∈ Finset.range 128, termOf m c b (inArray t.val (inBlock k p)) := by
  rw [outsAt0_B m c t h0 h1]
  dsimp only
  exact (soutB_1 c _ _ _ _ _ _ _ _ _ _ _ _ _ _ _ _ _ (block_bounds m c hT t) b hb p).trans (congrArg (fun z : EReal => (outsAt0 m c (t.val - 1) (Nat.lt_of_le_of_lt (Nat.sub_le _ _) t.isLt)).2.2 (row b p) + z) (addSum_block m c t b p))

/-- The last block's count at a bin's rows. -/
theorem countC (t : Fin cfg0.N) (h0 : ¬t.val % 64 = 0) (h1 : t.val % 64 = 63) (b : ℕ) (hb : b < 10) (p : S16x128.Idx) :
    (outsAt0 m c t.val t.isLt).2.1 (row b p) = (outsAt0 m c (t.val - 1) (Nat.lt_of_le_of_lt (Nat.sub_le _ _) t.isLt)).2.1 (row b p) + ∑ k ∈ Finset.range 128, oneOf m c b (inArray t.val (inBlock k p)) := by
  rw [outsAt0_C m c t h0 h1]
  dsimp only
  exact (soutC_0 c _ _ _ _ _ _ _ _ _ _ _ _ _ _ _ _ _ (block_bounds m c hT t) b hb p).trans (congrArg (fun z : EReal => (outsAt0 m c (t.val - 1) (Nat.lt_of_le_of_lt (Nat.sub_le _ _) t.isLt)).2.1 (row b p) + z) (addCount_block m c t b p))

/-- The last block's sum at a bin's rows. -/
theorem sumC (t : Fin cfg0.N) (h0 : ¬t.val % 64 = 0) (h1 : t.val % 64 = 63) (b : ℕ) (hb : b < 10) (p : S16x128.Idx) :
    (outsAt0 m c t.val t.isLt).2.2 (row b p) = (outsAt0 m c (t.val - 1) (Nat.lt_of_le_of_lt (Nat.sub_le _ _) t.isLt)).2.2 (row b p) + ∑ k ∈ Finset.range 128, termOf m c b (inArray t.val (inBlock k p)) := by
  rw [outsAt0_C m c t h0 h1]
  dsimp only
  exact (soutC_1 c _ _ _ _ _ _ _ _ _ _ _ _ _ _ _ _ _ (block_bounds m c hT t) b hb p).trans (congrArg (fun z : EReal => (outsAt0 m c (t.val - 1) (Nat.lt_of_le_of_lt (Nat.sub_le _ _) t.isLt)).2.2 (row b p) + z) (addSum_block m c t b p))

/-- THE SCRATCH ARRAYS after block `n`: at every bin's rows, the counts and sums of the blocks so far. -/
theorem scratch (b : ℕ) (hb : b < 10) (p : S16x128.Idx) (n : ℕ) (hn : n < cfg0.N) :
    (outsAt0 m c n hn).2.1 (row b p) = upTo (oneOf m c b) (n + 1) p ∧ (outsAt0 m c n hn).2.2 (row b p) = upTo (termOf m c b) (n + 1) p := by
  have hN : cfg0.N = 64 := N_0
  rw [upTo_succ (oneOf m c b) n, upTo_succ (termOf m c b) n]
  induction n with
  | zero =>
    have z : ∀ f : S16384x1024.Idx → EReal, upTo f 0 p = 0 := fun f => Finset.sum_range_zero _
    rw [z, z, zero_add, zero_add]
    exact ⟨countA m c hT ⟨0, hn⟩ (Nat.zero_mod _) (by show ¬0 % 64 = 63; decide) b hb p, sumA m c hT ⟨0, hn⟩ (Nat.zero_mod _) (by show ¬0 % 64 = 63; decide) b hb p⟩
  | succ n ih =>
    have hp := ih (Nat.lt_of_succ_lt hn)
    rw [← upTo_succ, ← upTo_succ] at hp
    have h0 : ¬(n + 1) % 64 = 0 := by omega
    rw [← hp.1, ← hp.2]
    by_cases h1 : (n + 1) % 64 = 63
    · exact ⟨countC m c hT ⟨n + 1, hn⟩ h0 h1 b hb p, sumC m c hT ⟨n + 1, hn⟩ h0 h1 b hb p⟩
    · exact ⟨countB m c hT ⟨n + 1, hn⟩ h0 h1 b hb p, sumB m c hT ⟨n + 1, hn⟩ h0 h1 b hb p⟩

/-- THE OUTPUT after the last block: the ten-bin loss of the whole array, at every place. -/
theorem output (t : Fin cfg0.N) (h : t.val = 63) (y : S8x128.Idx) : (outsAt0 m c t.val t.isLt).1 y = loss (kOf m c) (eOf m c) := by
  rw [outsAt0_C m c t (by omega) (by omega)]
  dsimp only
  have hp := fun (b : ℕ) (hb : b < 10) (p : S16x128.Idx) => scratch m c hT b hb p (t.val - 1) (Nat.lt_of_le_of_lt (Nat.sub_le _ _) t.isLt)
  have h63 : t.val - 1 + 1 = t.val := by omega
  refine outC_2 c _ _ _ _ _ _ _ _ _ _ _ _ _ _ _ _ _ (block_bounds m c hT t) (kOf m c) (eOf m c) (fun b hb => ?_) (fun b hb => ?_) y
  · rw [← sum_indicator]
    refine (Finset.sum_congr rfl fun p _ => ?_).trans (sum_upTo (oneOf m c b))
    rw [(hp b hb p).1, addCount_block, h63, ← upTo_succ, h]
  · refine (Finset.sum_congr rfl fun p _ => ?_).trans (sum_upTo (termOf m c b))
    rw [(hp b hb p).2, addSum_block, h63, ← upTo_succ, h]

end

end Cert.KernelIdeal.Slabs
-- ==== Proof.KernelValue.lean ====
/- The kernel's run read over the extended reals: it ends with the ten-bin loss of its arguments in its result. -/
module

public import proofs.«01_k».proof.Proof.GridValue
public import Idealize.ShloMosaic.Lib.StableHlo.Run
public import Idealize.ShloMosaic.Lib.Pipeline.Value

@[expose] public section

noncomputable section

namespace Cert.KernelIdeal.Slabs

open Cert.KernelIdeal Cert.KernelIdeal.Gen Idealize.ShloMosaic Idealize.ShloMosaic.TcCoe Cert.Ghm Idealize.SL.Sem

variable (m : (ℓ : Loc nD τ sig) → Buf (Elt Ideal) ℓ) (ρ : Dev nD → PrngReg)

/-- The output block the launch writes: the loss at every place. -/
def lossBlock (c : Dev nD) : Buf (Elt Ideal) ((c.tc : Thread nD τ).loc main_v0) := fun _ => loss (kOf m c) (eOf m c)

/-- The result, a single number: the loss. -/
def lossOut (c : Dev nD) : Buf (Elt Ideal) ((c.tc : Thread nD τ).loc main_v2) := fun _ => loss (kOf m c) (eOf m c)

/-- The last point of the grid. -/
def lastPt : Fin cfg0.N := ⟨63, lt_of_lt_of_eq (show 63 < 64 by decide) N_0.symm⟩

/-- Its block starts at the output array's first place and is the whole array. -/
theorem last_block : (win0_2.index lastPt 0 * win0_2.size 0 = 0 ∧ win0_2.xsize (grid0.coords lastPt) 0 = 8)
    ∧ (win0_2.index lastPt 1 * win0_2.size 1 = 0 ∧ win0_2.xsize (grid0.coords lastPt) 1 = 128) := by
  decide +kernel

/-- So the last point's write-back covers the output array. -/
theorem cover (i : S8x128.Idx) : ∃ t : Fin cfg0.N, (cfg0.win 2).flush t = true ∧ i ∈ ((cfg0.win 2).blk t).view.set := by
  refine ⟨lastPt, (flush0_2 _).mpr rfl, ?_⟩
  show i ∈ ((View.whole main_v0).slice (win0_2.rect lastPt)).set
  rw [View.set_slice_whole, Rect.mem_set_unit]
  intro a
  have h0 : (i 0 : Nat) < 8 := (i 0).isLt
  have h1 : (i 1 : Nat) < 128 := (i 1).isLt
  match a with
  | ⟨0, _⟩ =>
    show win0_2.index lastPt 0 * win0_2.size 0 ≤ (i 0 : Nat) ∧ (i 0 : Nat) < win0_2.index lastPt 0 * win0_2.size 0 + win0_2.xsize (grid0.coords lastPt) 0
    rw [last_block.1.1, last_block.1.2]; omega
  | ⟨1, _⟩ =>
    show win0_2.index lastPt 1 * win0_2.size 1 ≤ (i 1 : Nat) ∧ (i 1 : Nat) < win0_2.index lastPt 1 * win0_2.size 1 + win0_2.xsize (grid0.coords lastPt) 1
    rw [last_block.2.1, last_block.2.2]; omega

/-- The launch's three arrays are three buffers. -/
theorem arrays_inj : Function.Injective (Pipeline.arrRef spec0) := by decide

section

variable (c : Dev nD) (hT : ∀ i, 0 ≤ targets m c i ∧ targets m c i ≤ 1)
include hT

/-- The one write-back, after the last block, writes the loss at every place. -/
theorem flushed_eq (t : Fin cfg0.N) (hf : (cfg0.win 2).flush t = true) :
    (dats m 0 c).flushed 2 t = ((cfg0.win 2).blk t).view.read (Elt Ideal) (lossBlock m c) := by
  have hN : cfg0.N = 64 := N_0
  have h63 : t.val = 63 := by have := (flush0_2 t).mp hf; have := t.isLt; omega
  show (cfg0.win 2).cut (grid0.coords t) ((dats m 0 c).after 2 t) = _
  rw [after0_2, show (outsAt0 m c t.val t.isLt).1 = fun _ => loss (kOf m c) (eOf m c) from funext (output m c hT t h63)]
  rfl

/-- So the output array ends holding the loss at every place, -/
theorem final_out : (dats m 0 c).arrAt 2 cfg0.N = lossBlock m c :=
  (dats m 0 c).arrAt_eq_of_cover 2 (lossBlock m c) (flushed_eq m c hT) cover

/-- and the lines after the launch take its first place as the result. -/
theorem tail_eq : Pipeline.afterTail₀ cfgs (dats m) 0 (V0 m) [hostOps1] c main_v2 = lossOut m c := by
  unfold Pipeline.afterTail₀
  have e := (Pipeline.withArrays_arr spec0 arrays_inj c (V0 m c) (fun w => (dats m 0 c).arrAt w cfg0.N) 2).trans (final_out m c hT)
  show StableHlo.after [_, _] _ (Proc.devRef .tc main_v2) = _
  after_results
  rw [show Pipeline.withArrays (cfgs 0).spec c (V0 m c) (fun w => (dats m 0 c).arrAt w (cfgs 0).N) (Proc.devRef .tc main_v0) = lossBlock m c from e]
  rfl

end

/-- THE RUN: with targets that are probabilities, the result ends at the ten-bin loss and the arguments end unchanged. -/
theorem run (hT : ∀ c i, 0 ≤ targets m c i ∧ targets m c i ≤ 1) :
    θ_run defs (onTc (τ := τ) (main (F := Ideal))) ⟨m, fun _ => 0, ρ⟩ fun r => ∀ c : Dev nD,
      r.2.mem ((c.tc : Thread nD τ).loc main_v2) = lossOut m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 (by decide)).trans (tail_eq m c (hT c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Slabs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bounds
public import proofs.«01_k».proof.Proof.RefValue
public import proofs.«01_k».proof.Proof.KernelValue
public import Idealize.ShloMosaic.Adequacy
public import Idealize.ShloMosaic.Init

@[expose] public section

noncomputable section

namespace Cert.Proof

open Idealize.ShloMosaic Idealize.SL.Sem

/-- The kernel runs, leaves its arguments unchanged and every counter at zero. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- on the inputs of the value claim too. -/
theorem frame_ideal_pre [h : Cert.Pre_targets_are_probabilities.Facts] : Cert.quiescent_KernelIdeal_pre_targets_are_probabilities :=
  fun m ρ _ => Cert.KernelIdeal.Gen.frame m ρ

/-- The reference runs and leaves its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does on the inputs of the value claim. -/
theorem frame_reference_pre [h : Cert.Pre_targets_are_probabilities.Facts] : Cert.quiescent_ReferenceIdeal_pre_targets_are_probabilities :=
  fun m ρ _ => frame_reference m ρ trivial

/-- Each named constant reads, over the extended reals, as the number it names. -/
theorem preserves : Cert.preserves_Kernel_KernelIdeal :=
  ⟨IdealRules.named_const.statement Cert.KernelIdeal.κ "inv_ln2" .f32 0x3FB8AA3B#32 _ rfl,
    IdealRules.named_const.statement Cert.KernelIdeal.κ "ln2" .f32 0x3F317218#32 _ rfl⟩

/-- Over the extended reals both programs end with the ten-bin loss of the same scores and targets. -/
theorem algebraic [h : Cert.Pre_targets_are_probabilities.Facts] : Cert.algebraic_KernelIdeal_ReferenceIdeal_pre_targets_are_probabilities := by
  intro m ρ m' ρ' hpre hagree
  have hT : ∀ c i, 0 ≤ Cert.KernelIdeal.Slabs.targets m c i ∧ Cert.KernelIdeal.Slabs.targets m c i ≤ 1 :=
    fun c i => Cert.Pre_targets_are_probabilities.bounds _ _ (hpre c) i
  refine ⟨fun c => Cert.KernelIdeal.Slabs.lossOut m c, Cert.KernelIdeal.Slabs.run m ρ hT, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Loss.res_eq m' c).trans (funext fun j => ?_)
  rw [(hagree c).1, (hagree c).2]
  exact Cert.ReferenceIdeal.Loss.lossV_apply _ _ (hT c) j

/-- Everything claimed. -/
theorem claim : Cert.Claim :=
  ⟨Cert.Kernel.Gen.facts, Cert.KernelIdeal.Gen.facts, Cert.ReferenceIdeal.Gen.facts, Cert.Pre_targets_are_probabilities.facts,
    frame_kernel, frame_ideal,
    frame_ideal_pre (h := Cert.Pre_targets_are_probabilities.facts),
    frame_reference,
    frame_reference_pre (h := Cert.Pre_targets_are_probabilities.facts),
    preserves, algebraic (h := Cert.Pre_targets_are_probabilities.facts)⟩

end Cert.Proof

end
